-- ==== Defs.lean ====
def Pre_Kernel [hPre_index_in_range : Cert.Pre_index_in_range.Facts] (m : (ℓ : Loc Cert.Kernel.nD Cert.Kernel.τ Cert.Kernel.sig) → Buf (Elt Bits) ℓ) : Prop :=
  ∀ c : Dev Cert.Kernel.nD,
    (Cert.Pre_index_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_index_in_range : Cert.Pre_index_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_finite_start [hPre_finite_start : Cert.Pre_finite_start.Facts] (m : (ℓ : Loc Cert.KernelIdeal.nD Cert.KernelIdeal.τ Cert.KernelIdeal.sig) → Buf (Elt Ideal) ℓ) : Prop :=
  ∀ c : Dev Cert.KernelIdeal.nD,
    (Cert.Pre_finite_start.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_start [hPre_finite_start : Cert.Pre_finite_start.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_start.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_index_in_range : Cert.Pre_index_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_start [hKernelIdeal : Cert.KernelIdeal.Facts] [hPre_finite_start : Cert.Pre_finite_start.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_start m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_start [hReferenceIdeal : Cert.ReferenceIdeal.Facts] [hPre_finite_start : Cert.Pre_finite_start.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_start m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_start [hKernelIdeal : Cert.KernelIdeal.Facts] [hReferenceIdeal : Cert.ReferenceIdeal.Facts] [hPre_finite_start : Cert.Pre_finite_start.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_start m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_index_in_range : Cert.Pre_index_in_range.Facts) (hPre_finite_start : Cert.Pre_finite_start.Facts),
    quiescent_Kernel (hKernel := hKernel) (hPre_index_in_range := hPre_index_in_range)
    ∧ quiescent_KernelIdeal (hKernelIdeal := hKernelIdeal) (hPre_index_in_range := hPre_index_in_range)
    ∧ quiescent_KernelIdeal_pre_finite_start (hKernelIdeal := hKernelIdeal) (hPre_finite_start := hPre_finite_start)
    ∧ quiescent_ReferenceIdeal (hReferenceIdeal := hReferenceIdeal)
    ∧ quiescent_ReferenceIdeal_pre_finite_start (hReferenceIdeal := hReferenceIdeal) (hPre_finite_start := hPre_finite_start)
    ∧ preserves_Kernel_KernelIdeal
    ∧ algebraic_KernelIdeal_ReferenceIdeal_pre_finite_start (hKernelIdeal := hKernelIdeal) (hReferenceIdeal := hReferenceIdeal) (hPre_finite_start := hPre_finite_start)
-- ==== Pre_finite_start.lean ====
abbrev S2x2048x768 : Shape := ⟨3, ![2, 2048, 768]⟩
abbrev S2 : Shape := ⟨1, ![2]⟩
abbrev S2x2048 : Shape := ⟨2, ![2, 2048]⟩
abbrev S768x1 : Shape := ⟨2, ![768, 1]⟩
abbrev S1 : Shape := ⟨1, ![1]⟩
abbrev S1536x768 : Shape := ⟨2, ![1536, 768]⟩
abbrev S768 : Shape := ⟨1, ![768]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel
  bcast_S_S2x2048x768 : S_.BroadcastsInDim S2x2048x768 (![] : Fin 0 → Fin S2x2048x768.rank)
  reducesTo_S2x2048x768_S_d0_1_2 : S2x2048x768.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S768x1 : S_.BroadcastsInDim S768x1 (![] : Fin 0 → Fin S768x1.rank)
  reducesTo_S768x1_S_d0_1 : S768x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v15 : IVec S_ 1) (main_v16 : FVec F S768x1 .f32) : IVec S_ 1 :=
  let main_cst_5 : FVec F S_ .f32 := constant S_ .f32 0x7F800000#32
  let main_v17 : FVec F S768x1 .f32 := broadcastInDim S768x1 ![] bcast_S_S768x1 main_cst_5
  let main_v18 : IVec S768x1 1 := cmpf .olt main_v16 main_v17
  let main_c_6 : IVec S_ 1 := constantI S_ 1 1#1
  let main_v19 : IVec S_ 1 := (fun x v => Host.reduce IntOp.andi x v reducesTo_S768x1_S_d0_1 h_S_) main_v18 main_c_6
  let main_v20 : IVec S_ 1 := andi main_v15 main_v19
  let main_v21 : FVec F S1 .f32 := Host.absf main_arg4
  let main_cst_7 : FVec F S_ .f32 := constant S_ .f32 0x7F800000#32
  let main_v22 : FVec F S1 .f32 := broadcastInDim S1 ![] bcast_S_S1 main_cst_7
  let main_v23 : IVec S1 1 := cmpf .olt main_v21 main_v22
  let main_c_8 : IVec S_ 1 := constantI S_ 1 1#1
  let main_v24 : IVec S_ 1 := (fun x v => Host.reduce IntOp.andi x v reducesTo_S1_S_d0 h_S_) main_v23 main_c_8
  let main_v25 : IVec S_ 1 := andi main_v20 main_v24
  main_v25

def fn {F : FTy → Type} [FloatOps F] (main_arg0 : FVec F S2x2048x768 .f32) (main_arg1 : IVec S2 32) (main_arg2 : FVec F S2x2048 .f32) (main_arg3 : FVec F S768x1 .f32) (main_arg4 : FVec F S1 .f32) (main_arg5 : FVec F S1536x768 .f32) (main_arg6 : FVec F S768 .f32) (main_arg7 : FVec F S768 .f32) (main_arg8 : FVec F S768 .f32) (main_arg9 : FVec F S768x1 .f32) (main_arg10 : FVec F S1 .f32) (main_arg11 : FVec F S1536x768 .f32) (main_arg12 : FVec F S768 .f32) (main_arg13 : FVec F S768x1 .f32) : IVec S_ 1 :=
  let main_c : IVec S_ 32 := constantI S_ 32 0#32
  let main_v0 : IVec S2 32 := broadcastInDim S2 ![] bcast_S_S2 main_c
  let main_v1 : IVec S2 1 := cmpi .sge main_arg1 main_v0
  let main_c_0 : IVec S_ 32 := constantI S_ 32 2048#32
  let main_v2 : IVec S2 32 := broadcastInDim S2 ![] bcast_S_S2 main_c_0
  let main_v3 : IVec S2 1 := cmpi .slt main_arg1 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  let main_v6 : FVec F S2x2048x768 .f32 := Host.absf main_arg0
  let main_cst : FVec F S_ .f32 := constant S_ .f32 0x7F800000#32
  let main_v7 : FVec F S2x2048x768 .f32 := broadcastInDim S2x2048x768 ![] bcast_S_S2x2048x768 main_cst
  let main_v8 : IVec S2x2048x768 1 := cmpf .olt main_v6 main_v7
  let main_c_2 : IVec S_ 1 := constantI S_ 1 1#1
  let main_v9 : IVec S_ 1 := (fun x v => Host.reduce IntOp.andi x v reducesTo_S2x2048x768_S_d0_1_2 h_S_) main_v8 main_c_2
  let main_v10 : IVec S_ 1 := andi main_v5 main_v9
  let main_v11 : FVec F S2x2048 .f32 := Host.absf main_arg2
  let main_cst_3 : FVec F S_ .f32 := constant S_ .f32 0x7F800000#32
  let main_v12 : FVec F S2x2048 .f32 := broadcastInDim S2x2048 ![] bcast_S_S2x2048 main_cst_3
  let main_v13 : IVec S2x2048 1 := cmpf .olt main_v11 main_v12
  let main_c_4 : IVec S_ 1 := constantI S_ 1 1#1
  let main_v14 : IVec S_ 1 := (fun x v => Host.reduce IntOp.andi x v reducesTo_S2x2048_S_d0_1 h_S_) main_v13 main_c_4
  let main_v15 : IVec S_ 1 := andi main_v10 main_v14
  let main_v16 : FVec F S768x1 .f32 := Host.absf main_arg3
  fn_part1 (F := F) main_arg4 main_v15 main_v16
-- ==== Pre_index_in_range.lean ====
abbrev S2x2048x768 : Shape := ⟨3, ![2, 2048, 768]⟩
abbrev S2 : Shape := ⟨1, ![2]⟩
abbrev S2x2048 : Shape := ⟨2, ![2, 2048]⟩
abbrev S768x1 : Shape := ⟨2, ![768, 1]⟩
abbrev S1 : Shape := ⟨1, ![1]⟩
abbrev S1536x768 : Shape := ⟨2, ![1536, 768]⟩
abbrev S768 : Shape := ⟨1, ![768]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S2x2048x768 .f32) (main_arg1 : IVec S2 32) (main_arg2 : FVec F S2x2048 .f32) (main_arg3 : FVec F S768x1 .f32) (main_arg4 : FVec F S1 .f32) (main_arg5 : FVec F S1536x768 .f32) (main_arg6 : FVec F S768 .f32) (main_arg7 : FVec F S768 .f32) (main_arg8 : FVec F S768 .f32) (main_arg9 : FVec F S768x1 .f32) (main_arg10 : FVec F S1 .f32) (main_arg11 : FVec F S1536x768 .f32) (main_arg12 : FVec F S768 .f32) (main_arg13 : FVec F S768x1 .f32) : IVec S_ 1 :=
  let main_c : IVec S_ 32 := constantI S_ 32 0#32
  let main_v0 : IVec S2 32 := broadcastInDim S2 ![] bcast_S_S2 main_c
  let main_v1 : IVec S2 1 := cmpi .sge main_arg1 main_v0
  let main_c_0 : IVec S_ 32 := constantI S_ 32 2048#32
  let main_v2 : IVec S2 32 := broadcastInDim S2 ![] bcast_S_S2 main_c_0
  let main_v3 : IVec S2 1 := cmpi .slt main_arg1 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  main_v5
-- ==== Kernel.lean ====
abbrev S2x2048x768 : Shape := ⟨3, ![2, 2048, 768]⟩
abbrev S2 : Shape := ⟨1, ![2]⟩
abbrev S2x2048 : Shape := ⟨2, ![2, 2048]⟩
abbrev S768x1 : Shape := ⟨2, ![768, 1]⟩
abbrev S1 : Shape := ⟨1, ![1]⟩
abbrev S1536x768 : Shape := ⟨2, ![1536, 768]⟩
abbrev S768 : Shape := ⟨1, ![768]⟩
abbrev S2x2048x1 : Shape := ⟨3, ![2, 2048, 1]⟩
abbrev S1x1 : Shape := ⟨2, ![1, 1]⟩
abbrev S768x768 : Shape := ⟨2, ![768, 768]⟩
abbrev S1x768 : Shape := ⟨2, ![1, 768]⟩
abbrev S2x1x5 : Shape := ⟨3, ![2, 1, 5]⟩
abbrev S2x5x5 : Shape := ⟨3, ![2, 5, 5]⟩
abbrev S2x1x1 : Shape := ⟨3, ![2, 1, 1]⟩
abbrev S1x2048x768 : Shape := ⟨3, ![1, 2048, 768]⟩
abbrev S1x2048x1 : Shape := ⟨3, ![1, 2048, 1]⟩
abbrev S1x1x5 : Shape := ⟨3, ![1, 1, 5]⟩
abbrev S1x5x5 : Shape := ⟨3, ![1, 5, 5]⟩
abbrev S1x1x1 : Shape := ⟨3, ![1, 1, 1]⟩
abbrev S2048x768 : Shape := ⟨2, ![2048, 768]⟩
abbrev S2048x1 : Shape := ⟨2, ![2048, 1]⟩
abbrev S1x2048 : Shape := ⟨2, ![1, 2048]⟩
abbrev S1x1x768 : Shape := ⟨3, ![1, 1, 768]⟩
abbrev S1x5 : Shape := ⟨2, ![1, 5]⟩
abbrev S5x768 : Shape := ⟨2, ![5, 768]⟩
abbrev S2048 : Shape := ⟨1, ![2048]⟩
abbrev S2048x5 : Shape := ⟨2, ![2048, 5]⟩
abbrev S5x2048 : Shape := ⟨2, ![5, 2048]⟩
abbrev S5 : Shape := ⟨1, ![5]⟩
abbrev S5x1 : Shape := ⟨2, ![5, 1]⟩
abbrev S5x5 : Shape := ⟨2, ![5, 5]⟩
abbrev S2x5 : Shape := ⟨2, ![2, 5]⟩
abbrev S2x25 : Shape := ⟨2, ![2, 25]⟩

abbrev nBuf : Space → Nat
  | .hbm => 37
  | .vmem => 27
  | .smem => 1
  | _ => 0

abbrev bufTy : (tb : Table) → Fin (tcTables nBuf tb) → BufTy
  | .hbm, ⟨0, _⟩ => ⟨S2x2048x768, .f32⟩
  | .hbm, ⟨1, _⟩ => ⟨S2, .i32⟩
  | .hbm, ⟨2, _⟩ => ⟨S2x2048, .f32⟩
  | .hbm, ⟨3, _⟩ => ⟨S768x1, .f32⟩
  | .hbm, ⟨4, _⟩ => ⟨S1, .f32⟩
  | .hbm, ⟨5, _⟩ => ⟨S1536x768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768x1, .f32⟩
  | .hbm, ⟨10, _⟩ => ⟨S1, .f32⟩
  | .hbm, ⟨11, _⟩ => ⟨S1536x768, .f32⟩
  | .hbm, ⟨12, _⟩ => ⟨S768, .f32⟩
  | .hbm, ⟨13, _⟩ => ⟨S768x1, .f32⟩
  | .hbm, ⟨14, _⟩ => ⟨S2x2048x1, .f32⟩
  | .hbm, ⟨15, _⟩ => ⟨S1x1, .f32⟩
  | .hbm, ⟨16, _⟩ => ⟨S768x768, .f32⟩
  | .hbm, ⟨17, _⟩ => ⟨S768x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x1, .f32⟩
  | .hbm, ⟨22, _⟩ => ⟨S768x768, .f32⟩
  | .hbm, ⟨23, _⟩ => ⟨S768x768, .f32⟩
  | .hbm, ⟨24, _⟩ => ⟨S1x768, .f32⟩
  | .hbm, ⟨25, _⟩ => ⟨S2x1x5, .f32⟩
  | .hbm, ⟨26, _⟩ => ⟨S2x1x5, .i32⟩
  | .hbm, ⟨27, _⟩ => ⟨S2x5x5, .f32⟩
  | .hbm, ⟨28, _⟩ => ⟨S2x5x5, .i32⟩
  | .hbm, ⟨29, _⟩ => ⟨S2x1x1, .f32⟩
  | .hbm, ⟨30, _⟩ => ⟨S2x5, .f32⟩
  | .hbm, ⟨31, _⟩ => ⟨S2x5, .i32⟩
  | .hbm, ⟨32, _⟩ => ⟨S2x5x5, .f32⟩
  | .hbm, ⟨33, _⟩ => ⟨S2x25, .f32⟩
  | .hbm, ⟨34, _⟩ => ⟨S2x5x5, .i32⟩
  | .hbm, ⟨35, _⟩ => ⟨S2x25, .i32⟩
  | .hbm, ⟨36, _⟩ => ⟨S2, .f32⟩
  | .local _ .vmem, ⟨0, _⟩ => ⟨S1x2048x768, .f32⟩
  | .local _ .vmem, ⟨1, _⟩ => ⟨S1x2048x768, .f32⟩
  | .local _ .vmem, ⟨2, _⟩ => ⟨S1x2048x1, .f32⟩
  | .local _ .vmem, ⟨3, _⟩ => ⟨S1x2048x1, .f32⟩
  | .local _ .vmem, ⟨4, _⟩ => ⟨S768x1, .f32⟩
  | .local _ .vmem, ⟨5, _⟩ => ⟨S1x1, .f32⟩
  | .local _ .vmem, ⟨6, _⟩ => ⟨S768x768, .f32⟩
  | .local _ .vmem, ⟨7, _⟩ => ⟨S768x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S768x1, .f32⟩
  | .local _ .vmem, ⟨12, _⟩ => ⟨S1x1, .f32⟩
  | .local _ .vmem, ⟨13, _⟩ => ⟨S768x768, .f32⟩
  | .local _ .vmem, ⟨14, _⟩ => ⟨S768x768, .f32⟩
  | .local _ .vmem, ⟨15, _⟩ => ⟨S1x768, .f32⟩
  | .local _ .vmem, ⟨16, _⟩ => ⟨S768x1, .f32⟩
  | .local _ .vmem, ⟨17, _⟩ => ⟨S1x1x5, .f32⟩
  | .local _ .vmem, ⟨18, _⟩ => ⟨S1x1x5, .f32⟩
  | .local _ .vmem, ⟨19, _⟩ => ⟨S1x1x5, .i32⟩
  | .local _ .vmem, ⟨20, _⟩ => ⟨S1x1x5, .i32⟩
  | .local _ .vmem, ⟨21, _⟩ => ⟨S1x5x5, .f32⟩
  | .local _ .vmem, ⟨22, _⟩ => ⟨S1x5x5, .f32⟩
  | .local _ .vmem, ⟨23, _⟩ => ⟨S1x5x5, .i32⟩
  | .local _ .vmem, ⟨24, _⟩ => ⟨S1x5x5, .i32⟩
  | .local _ .vmem, ⟨25, _⟩ => ⟨S1x1x1, .f32⟩
  | .local _ .vmem, ⟨26, _⟩ => ⟨S1x1x1, .f32⟩
  | .local _ .smem, ⟨0, _⟩ => ⟨S2, .i32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27

abbrev nD : Nat := 1
abbrev τ : Topo := Topo.v7x

variable {F : FTy → Type} [FloatOps F]

abbrev grid0 : Pipeline.Grid := ⟨1, ![2], ![false]⟩

def k0_off1 (v37 : BitVec 32) : Fin 3 → Nat :=
  let c0_16 : Index := 0#32
  let v38 : Index := Scalar.indexCast v37
  let c0_17 : Index := 0#32
  ![0, v38.toNat, 0]

def k0_chk1 (v37 : BitVec 32) : Prop :=
  (∀ a, (k0_off1 v37) a + S1x1x768.size a ≤ S1x2048x768.size a)
theorem k0_off1_inb : ∀ (v37 : BitVec 32) (k0_hw1 : k0_chk1 v37), ∀ a, (k0_off1 v37) a + S1x1x768.size a ≤ S1x2048x768.size a := fun v37 k0_hw1 => k0_hw1

def k0_off2 (v53 : BitVec 32) : Fin 3 → Nat :=
  let c0_22 : Index := 0#32
  let v54 : Index := Scalar.indexCast v53
  let c0_23 : Index := 0#32
  ![0, v54.toNat, 0]

def k0_chk2 (v53 : BitVec 32) : Prop :=
  (∀ a, (k0_off2 v53) a + S1x1x768.size a ≤ S1x2048x768.size a)
theorem k0_off2_inb : ∀ (v53 : BitVec 32) (k0_hw2 : k0_chk2 v53), ∀ a, (k0_off2 v53) a + S1x1x768.size a ≤ S1x2048x768.size a := fun v53 k0_hw2 => k0_hw2

def k0_off3 (v69 : BitVec 32) : Fin 3 → Nat :=
  let c0_28 : Index := 0#32
  let v70 : Index := Scalar.indexCast v69
  let c0_29 : Index := 0#32
  ![0, v70.toNat, 0]

def k0_chk3 (v69 : BitVec 32) : Prop :=
  (∀ a, (k0_off3 v69) a + S1x1x768.size a ≤ S1x2048x768.size a)
theorem k0_off3_inb : ∀ (v69 : BitVec 32) (k0_hw3 : k0_chk3 v69), ∀ a, (k0_off3 v69) a + S1x1x768.size a ≤ S1x2048x768.size a := fun v69 k0_hw3 => k0_hw3

def k0_off4 (v85 : BitVec 32) : Fin 3 → Nat :=
  let c0_34 : Index := 0#32
  let v86 : Index := Scalar.indexCast v85
  let c0_35 : Index := 0#32
  ![0, v86.toNat, 0]

def k0_chk4 (v85 : BitVec 32) : Prop :=
  (∀ a, (k0_off4 v85) a + S1x1x768.size a ≤ S1x2048x768.size a)
theorem k0_off4_inb : ∀ (v85 : BitVec 32) (k0_hw4 : k0_chk4 v85), ∀ a, (k0_off4 v85) a + S1x1x768.size a ≤ S1x2048x768.size a := fun v85 k0_hw4 => k0_hw4

def k0_off5 (v97 : BitVec 32) : Fin 3 → Nat :=
  let c0_39 : Index := 0#32
  let v98 : Index := Scalar.indexCast v97
  let c0_40 : Index := 0#32
  ![0, v98.toNat, 0]

def k0_chk5 (v97 : BitVec 32) : Prop :=
  (∀ a, (k0_off5 v97) a + S1x1x768.size a ≤ S1x2048x768.size a)
theorem k0_off5_inb : ∀ (v97 : BitVec 32) (k0_hw5 : k0_chk5 v97), ∀ a, (k0_off5 v97) a + S1x1x768.size a ≤ S1x2048x768.size a := fun v97 k0_hw5 => k0_hw5

def k0_off6 (i : grid0.Coords) : Fin 1 → Nat :=
  let arg0 : BitVec 32 := BitVec.ofNat 32 (i 0).val
  let v349 : Index := Scalar.indexCast arg0
  ![v349.toNat]
def k0_off7 (v350 : BitVec 32) : Fin 3 → Nat :=
  let c0_130 : Index := 0#32
  let v351 : Index := Scalar.indexCast v350
  let c0_131 : Index := 0#32
  ![0, v351.toNat, 0]

def k0_chk6 (v350 : BitVec 32) : Prop :=
  (∀ a, (k0_off7 v350) a + S1x1x768.size a ≤ S1x2048x768.size a)
theorem k0_off7_inb : ∀ (v350 : BitVec 32) (k0_hw6 : k0_chk6 v350), ∀ a, (k0_off7 v350) a + S1x1x768.size a ≤ S1x2048x768.size a := fun v350 k0_hw6 => k0_hw6

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S768x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x5 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x5 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x5x5 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x5x5 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S2x2048x768 : Shape := ⟨3, ![2, 2048, 768]⟩
abbrev S2 : Shape := ⟨1, ![2]⟩
abbrev S2x2048 : Shape := ⟨2, ![2, 2048]⟩
abbrev S768x1 : Shape := ⟨2, ![768, 1]⟩
abbrev S1 : Shape := ⟨1, ![1]⟩
abbrev S1536x768 : Shape := ⟨2, ![1536, 768]⟩
abbrev S768 : Shape := ⟨1, ![768]⟩
abbrev S2x2048x1 : Shape := ⟨3, ![2, 2048, 1]⟩
abbrev S1x1x1 : Shape := ⟨3, ![1, 1, 1]⟩
abbrev S_ : Shape := ⟨0, ![]⟩
abbrev S2x1 : Shape := ⟨2, ![2, 1]⟩
abbrev S2x5 : Shape := ⟨2, ![2, 5]⟩
abbrev S2x5x1 : Shape := ⟨3, ![2, 5, 1]⟩
abbrev S2x5x768 : Shape := ⟨3, ![2, 5, 768]⟩
abbrev S2x5x768x1 : Shape := ⟨4, ![2, 5, 768, 1]⟩
abbrev S1x1x1x1 : Shape := ⟨4, ![1, 1, 1, 1]⟩
abbrev S2x1x5x768 : Shape := ⟨4, ![2, 1, 5, 768]⟩
abbrev S2x2048x5x768 : Shape := ⟨4, ![2, 2048, 5, 768]⟩
abbrev S2x2048x1x768 : Shape := ⟨4, ![2, 2048, 1, 768]⟩
abbrev S2x2048x5x1536 : Shape := ⟨4, ![2, 2048, 5, 1536]⟩
abbrev S1x1x1x768 : Shape := ⟨4, ![1, 1, 1, 768]⟩
abbrev S2x2048x5 : Shape := ⟨3, ![2, 2048, 5]⟩
abbrev S2x2048x5x1 : Shape := ⟨4, ![2, 2048, 5, 1]⟩
abbrev S2x1x5 : Shape := ⟨3, ![2, 1, 5]⟩
abbrev S2x5x2048 : Shape := ⟨3, ![2, 5, 2048]⟩
abbrev S2x5x5 : Shape := ⟨3, ![2, 5, 5]⟩
abbrev S2x25 : Shape := ⟨2, ![2, 25]⟩
abbrev S2x768 : Shape := ⟨2, ![2, 768]⟩
abbrev S2x1x1 : Shape := ⟨3, ![2, 1, 1]⟩
abbrev S2x1x768 : Shape := ⟨3, ![2, 1, 768]⟩
abbrev S2x1x768x1 : Shape := ⟨4, ![2, 1, 768, 1]⟩
abbrev S2x1536 : Shape := ⟨2, ![2, 1536]⟩
abbrev S1x768 : Shape := ⟨2, ![1, 768]⟩

abbrev nBuf : Space → Nat
  | .hbm => 177
  | .vmem => 0
  | .smem => 0
  | _ => 0

abbrev hbmTy0_0 (i : Nat) : BufTy := match i % 128 with
  | 0 => ⟨S2x2048x768, .f32⟩
  | 1 => ⟨S2, .i32⟩
  | 2 => ⟨S2x2048, .f32⟩
  | 3 => ⟨S768x1, .f32⟩
  | 4 => ⟨S1, .f32⟩
  | 5 => ⟨S1536x768, .f32⟩
  | 6 => ⟨S768, .f32⟩
  | 7 => ⟨S768, .f32⟩
  | 8 => ⟨S768, .f32⟩
  | 9 => ⟨S768x1, .f32⟩
  | 10 => ⟨S1, .f32⟩
  | 11 => ⟨S1536x768, .f32⟩
  | 12 => ⟨S768, .f32⟩
  | 13 => ⟨S768x1, .f32⟩
  | 14 => ⟨S2x2048x1, .f32⟩
  | 15 => ⟨S1x1x1, .f32⟩
  | 16 => ⟨S2x2048x1, .f32⟩
  | 17 => ⟨S2x2048x1, .f32⟩
  | 18 => ⟨S2x2048, .f32⟩
  | 19 => ⟨S_, .f32⟩
  | 20 => ⟨S2x2048, .f32⟩
  | 21 => ⟨S2x2048, .f32⟩
  | 22 => ⟨S2x2048, .f32⟩
  | 23 => ⟨S_, .f32⟩
  | 24 => ⟨S2x2048, .f32⟩
  | 25 => ⟨S2x2048, .f32⟩
  | 26 => ⟨S2x2048, .f32⟩
  | 27 => ⟨S_, .f32⟩
  | 28 => ⟨S2, .f32⟩
  | 29 => ⟨S_, .f32⟩
  | 30 => ⟨S2, .f32⟩
  | 31 => ⟨S2, .f32⟩
  | 32 => ⟨S2x1, .f32⟩
  | 33 => ⟨S2x2048, .f32⟩
  | 34 => ⟨S2x2048, .f32⟩
  | 35 => ⟨S2x2048, .f32⟩
  | 36 => ⟨S_, .f32⟩
  | 37 => ⟨S2, .f32⟩
  | 38 => ⟨S2x1, .f32⟩
  | 39 => ⟨S2x2048, .f32⟩
  | 40 => ⟨S2x2048, .f32⟩
  | 41 => ⟨S2x5, .f32⟩
  | 42 => ⟨S2x5, .i32⟩
  | 43 => ⟨S2x5x1, .i32⟩
  | 44 => ⟨S2x5x768, .i32⟩
  | 45 => ⟨S_, .i32⟩
  | 46 => ⟨S2x5x768, .i32⟩
  | 47 => ⟨S2x5x768, .i1⟩
  | 48 => ⟨S_, .i32⟩
  | 49 => ⟨S2x5x768, .i32⟩
  | 50 => ⟨S2x5x768, .i32⟩
  | 51 => ⟨S2x5x768, .i32⟩
  | 52 => ⟨S2x5x768x1, .i32⟩
  | 53 => ⟨S1, .i32⟩
  | 54 => ⟨S_, .i32⟩
  | 55 => ⟨S2x5x768x1, .i32⟩
  | 56 => ⟨S2x5x768x1, .i1⟩
  | 57 => ⟨S1x1x1x1, .i32⟩
  | 58 => ⟨S2x5x768x1, .i32⟩
  | 59 => ⟨S2x5x768x1, .i1⟩
  | 60 => ⟨S2x5x768x1, .i1⟩
  | 61 => ⟨S_, .i1⟩
  | 62 => ⟨S2x5x768, .i1⟩
  | 63 => ⟨S2x5x768, .f32⟩
  | 64 => ⟨S_, .f32⟩
  | 65 => ⟨S2x5x768, .f32⟩
  | 66 => ⟨S2x5x768, .f32⟩
  | 67 => ⟨S2x1x5x768, .f32⟩
  | 68 => ⟨S2x2048x5x768, .f32⟩
  | 69 => ⟨S2x2048x1x768, .f32⟩
  | 70 => ⟨S2x2048x5x768, .f32⟩
  | 71 => ⟨S2x2048x5x1536, .f32⟩
  | 72 => ⟨S2x2048x5x768, .f32⟩
  | 73 => ⟨S1x1x1x768, .f32⟩
  | 74 => ⟨S2x2048x5x768, .f32⟩
  | 75 => ⟨S2x2048x5x768, .f32⟩
  | 76 => ⟨S2x2048x5x768, .f32⟩
  | 77 => ⟨S_, .f32⟩
  | 78 => ⟨S2x2048x5, .f32⟩
  | 79 => ⟨S2x2048x5x1, .f32⟩
  | 80 => ⟨S_, .f32⟩
  | 81 => ⟨S2x2048x5x1, .f32⟩
  | 82 => ⟨S2x2048x5x1, .f32⟩
  | 83 => ⟨S2x2048x5x768, .f32⟩
  | 84 => ⟨S2x2048x5x768, .f32⟩
  | 85 => ⟨S2x2048x5x768, .f32⟩
  | 86 => ⟨S_, .f32⟩
  | 87 => ⟨S2x2048x5, .f32⟩
  | 88 => ⟨S2x2048x5x1, .f32⟩
  | 89 => ⟨S_, .f32⟩
  | 90 => ⟨S2x2048x5x1, .f32⟩
  | 91 => ⟨S2x2048x5x1, .f32⟩
  | 92 => ⟨S2x2048x5x768, .f32⟩
  | 93 => ⟨S2x2048x5x768, .f32⟩
  | 94 => ⟨S_, .f32⟩
  | 95 => ⟨S2x2048x5x1, .f32⟩
  | 96 => ⟨S2x2048x5x1, .f32⟩
  | 97 => ⟨S2x2048x5x1, .f32⟩
  | 98 => ⟨S2x2048x5x768, .f32⟩
  | 99 => ⟨S2x2048x5x768, .f32⟩
  | 100 => ⟨S1x1x1x768, .f32⟩
  | 101 => ⟨S2x2048x5x768, .f32⟩
  | 102 => ⟨S2x2048x5x768, .f32⟩
  | 103 => ⟨S1x1x1x768, .f32⟩
  | 104 => ⟨S2x2048x5x768, .f32⟩
  | 105 => ⟨S2x2048x5x768, .f32⟩
  | 106 => ⟨S2x2048x5x1, .f32⟩
  | 107 => ⟨S1x1x1x1, .f32⟩
  | 108 => ⟨S2x2048x5x1, .f32⟩
  | 109 => ⟨S2x2048x5x1, .f32⟩
  | 110 => ⟨S2x2048x5, .f32⟩
  | 111 => ⟨S2x2048x1, .f32⟩
  | 112 => ⟨S_, .f32⟩
  | 113 => ⟨S2x2048x1, .f32⟩
  | 114 => ⟨S2x2048x1, .f32⟩
  | 115 => ⟨S2x2048x5, .f32⟩
  | 116 => ⟨S2x2048x5, .f32⟩
  | 117 => ⟨S_, .f32⟩
  | 118 => ⟨S2x2048x1, .f32⟩
  | 119 => ⟨S2x2048x1, .f32⟩
  | 120 => ⟨S2x2048x5, .f32⟩
  | 121 => ⟨S2x2048x5, .f32⟩
  | 122 => ⟨S_, .f32⟩
  | 123 => ⟨S2x5, .f32⟩
  | 124 => ⟨S_, .f32⟩
  | 125 => ⟨S2x5, .f32⟩
  | 126 => ⟨S2x5, .f32⟩
  | 127 => ⟨S2x1x5, .f32⟩
  | _ => ⟨S2x2048x768, .f32⟩

abbrev hbmTy0_1 (i : Nat) : BufTy := match i % 128 with
  | 0 => ⟨S2x2048x5, .f32⟩
  | 1 => ⟨S2x2048x5, .f32⟩
  | 2 => ⟨S2x2048x5, .f32⟩
  | 3 => ⟨S_, .f32⟩
  | 4 => ⟨S2x5, .f32⟩
  | 5 => ⟨S2x1x5, .f32⟩
  | 6 => ⟨S2x2048x5, .f32⟩
  | 7 => ⟨S2x2048x5, .f32⟩
  | 8 => ⟨S2x5x2048, .f32⟩
  | 9 => ⟨S2x5x5, .f32⟩
  | 10 => ⟨S2x5x5, .i32⟩
  | 11 => ⟨S2x5x5, .f32⟩
  | 12 => ⟨S2x25, .f32⟩
  | 13 => ⟨S2x5x5, .i32⟩
  | 14 => ⟨S2x25, .i32⟩
  | 15 => ⟨S2x768, .f32⟩
  | 16 => ⟨S2x1x1, .i32⟩
  | 17 => ⟨S2x1x768, .i32⟩
  | 18 => ⟨S_, .i32⟩
  | 19 => ⟨S2x1x768, .i32⟩
  | 20 => ⟨S2x1x768, .i1⟩
  | 21 => ⟨S_, .i32⟩
  | 22 => ⟨S2x1x768, .i32⟩
  | 23 => ⟨S2x1x768, .i32⟩
  | 24 => ⟨S2x1x768, .i32⟩
  | 25 => ⟨S2x1x768x1, .i32⟩
  | 26 => ⟨S1, .i32⟩
  | 27 => ⟨S_, .i32⟩
  | 28 => ⟨S2x1x768x1, .i32⟩
  | 29 => ⟨S2x1x768x1, .i1⟩
  | 30 => ⟨S1x1x1x1, .i32⟩
  | 31 => ⟨S2x1x768x1, .i32⟩
  | 32 => ⟨S2x1x768x1, .i1⟩
  | 33 => ⟨S2x1x768x1, .i1⟩
  | 34 => ⟨S_, .i1⟩
  | 35 => ⟨S2x1x768, .i1⟩
  | 36 => ⟨S2x1x768, .f32⟩
  | 37 => ⟨S_, .f32⟩
  | 38 => ⟨S2x1x768, .f32⟩
  | 39 => ⟨S2x1x768, .f32⟩
  | 40 => ⟨S2x768, .f32⟩
  | 41 => ⟨S2x1536, .f32⟩
  | 42 => ⟨S2x768, .f32⟩
  | 43 => ⟨S1x768, .f32⟩
  | 44 => ⟨S2x768, .f32⟩
  | 45 => ⟨S2x768, .f32⟩
  | 46 => ⟨S2x768, .f32⟩
  | 47 => ⟨S2x1, .f32⟩
  | 48 => ⟨S2, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_values : Ref sig .tc := ⟨.hbm, 41, rfl⟩
abbrev main_indices : Ref sig .tc := ⟨.hbm, 42, rfl⟩
abbrev main_v22 : Ref sig .tc := ⟨.hbm, 43, rfl⟩
abbrev main_v23 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_cst : Ref sig .tc := ⟨.hbm, 64, rfl⟩
abbrev main_call0_v14 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_4 : Ref sig .tc := ⟨.hbm, 77, rfl⟩
abbrev main_v35 : Ref sig .tc := ⟨.hbm, 78, rfl⟩
abbrev main_v36 : Ref sig .tc := ⟨.hbm, 79, rfl⟩
abbrev main_cst_5 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_6 : Ref sig .tc := ⟨.hbm, 86, rfl⟩
abbrev main_v42 : Ref sig .tc := ⟨.hbm, 87, rfl⟩
abbrev main_v43 : Ref sig .tc := ⟨.hbm, 88, rfl⟩
abbrev main_cst_7 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_8 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_9 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_10 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_11 : Ref sig .tc := ⟨.hbm, 122, rfl⟩
abbrev main_v73 : Ref sig .tc := ⟨.hbm, 123, rfl⟩
abbrev main_cst_12 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_13 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_values_14 : Ref sig .tc := ⟨.hbm, 137, rfl⟩
abbrev main_indices_15 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_call1_c : Ref sig .tc := ⟨.hbm, 146, rfl⟩
abbrev main_call1_v0 : Ref sig .tc := ⟨.hbm, 147, rfl⟩
abbrev main_call1_v1 : Ref sig .tc := ⟨.hbm, 148, rfl⟩
abbrev main_call1_c_0 : Ref sig .tc := ⟨.hbm, 149, rfl⟩
abbrev main_call1_v2 : Ref sig .tc := ⟨.hbm, 150, rfl⟩
abbrev main_call1_v3 : Ref sig .tc := ⟨.hbm, 151, rfl⟩
abbrev main_call1_v4 : Ref sig .tc := ⟨.hbm, 152, rfl⟩
abbrev main_call1_v5 : Ref sig .tc := ⟨.hbm, 153, rfl⟩
abbrev main_call1_c_1 : Ref sig .tc := ⟨.hbm, 154, rfl⟩
abbrev main_call1_c_2 : Ref sig .tc := ⟨.hbm, 155, rfl⟩
abbrev main_call1_v6 : Ref sig .tc := ⟨.hbm, 156, rfl⟩
abbrev main_call1_v7 : Ref sig .tc := ⟨.hbm, 157, rfl⟩
abbrev main_call1_v8 : Ref sig .tc := ⟨.hbm, 158, rfl⟩
abbrev main_call1_v9 : Ref sig .tc := ⟨.hbm, 159, rfl⟩
abbrev main_call1_v10 : Ref sig .tc := ⟨.hbm, 160, rfl⟩
abbrev main_call1_v11 : Ref sig .tc := ⟨.hbm, 161, rfl⟩
abbrev main_call1_c_3 : Ref sig .tc := ⟨.hbm, 162, rfl⟩
abbrev main_call1_v12 : Ref sig .tc := ⟨.hbm, 163, rfl⟩
abbrev main_call1_v13 : Ref sig .tc := ⟨.hbm, 164, rfl⟩
abbrev main_call1_cst : Ref sig .tc := ⟨.hbm, 165, rfl⟩
abbrev main_call1_v14 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩

abbrev nD : Nat := 1
abbrev τ : Topo := Topo.v7x

variable {F : FTy → Type} [FloatOps F]
-- ==== Proof.Pre.lean ====
/-
  What the two preconditions say of the arguments, element by element: every class word lies in [0, 2048), and — for
  the equation — every hidden element, mask element, start weight and the start bias is a real number.
-/
module

public import proofs.«01_k».proof.Defs
public import proofs.«01_k».proof.Proof.Gen.Pre_index_in_range
public import proofs.«01_k».proof.Proof.Gen.Pre_finite_start
public import Idealize.ShloMosaic.Lib.ReduceAll
public import Idealize.ShloMosaic.Lib.KernelVsHost

@[expose] public section

namespace Squad

open Idealize.ShloMosaic

variable {F : FTy → Type} [FloatOps F]

instance : Subsingleton (⟨0, ![]⟩ : Shape).Idx := ⟨fun _ _ => funext fun a => a.elim0⟩

/-- A conjunction of bits is one only where both are. -/
theorem and_one {a b : BitVec 1} (h : IntOp.andi a b = 1#1) : a = 1#1 ∧ b = 1#1 := by
  revert h; revert a b; decide

/-- A word that passes both signed comparisons lies in [0, 2048). -/
theorem word_range {w : BitVec 32} (h : IntOp.andi (IntOp.cmpi .sge w 0#32) (IntOp.cmpi .slt w 2048#32) = 1#1) :
    w.toNat ≤ 2047 := by
  obtain ⟨h1, h2⟩ := and_one h
  have e1 : (BitVec.ofBool ((0#32).sle w)) = 1#1 := h1
  have e2 : (BitVec.ofBool (w.slt 2048#32)) = 1#1 := h2
  have b (p : Bool) : (BitVec.ofBool p = 1#1) ↔ p = true := by cases p <;> decide
  rw [b] at e1 e2
  simp only [BitVec.sle, BitVec.slt, decide_eq_true_eq, BitVec.toInt, BitVec.toNat_ofNat] at e1 e2
  omega

/-- Every class word lies in [0, 2048) where the range precondition holds. -/
theorem index_range (a0 : FVec F ⟨3, ![2, 2048, 768]⟩ .f32) (a1 : IVec ⟨1, ![2]⟩ 32) (a2 : FVec F ⟨2, ![2, 2048]⟩ .f32)
    (a3 : FVec F ⟨2, ![768, 1]⟩ .f32) (a4 : FVec F ⟨1, ![1]⟩ .f32) (a5 : FVec F ⟨2, ![1536, 768]⟩ .f32)
    (a6 a7 a8 : FVec F ⟨1, ![768]⟩ .f32) (a9 : FVec F ⟨2, ![768, 1]⟩ .f32) (a10 : FVec F ⟨1, ![1]⟩ .f32)
    (a11 : FVec F ⟨2, ![1536, 768]⟩ .f32) (a12 : FVec F ⟨1, ![768]⟩ .f32) (a13 : FVec F ⟨2, ![768, 1]⟩ .f32)
    (h : Cert.Pre_index_in_range.fn (F := F) a0 a1 a2 a3 a4 a5 a6 a7 a8 a9 a10 a11 a12 a13 = fun _ => 1#1)
    (j : (⟨1, ![2]⟩ : Shape).Idx) : (a1 j).toNat ≤ 2047 :=
  word_range (Host.reduce_andi_all _ _ _ _ _ (congrFun h (fun a => a.elim0)) j)

/-- An extended real whose absolute value is below +∞ is a real number. -/
theorem real_of_olt (x : Ideal .f32)
    (h : FloatOps.cmpf .olt (FloatOps.hostAbsf x) (FloatOps.ofBits (F := Ideal) .f32 0x7F800000#32) = 1#1) :
    ∃ r : ℝ, (x : EReal) = r := by
  rw [← Ideal.xori_weird_eq_hostAbsf_olt_inf] at h
  have h' : IntOp.xori (BitVec.ofBool (decide ((x : EReal) = ⊤ ∨ (x : EReal) = ⊥))) 1#1 = 1#1 := h
  have hn : ¬ ((x : EReal) = ⊤ ∨ (x : EReal) = ⊥) := by
    intro hx
    rw [decide_eq_true hx] at h'
    exact absurd h' (by decide)
  push Not at hn
  exact ⟨(x : EReal).toReal, (EReal.coe_toReal hn.1 hn.2).symm⟩

/-- What the finiteness precondition says. -/
theorem finite_start (a0 : FVec Ideal ⟨3, ![2, 2048, 768]⟩ .f32) (a1 : IVec ⟨1, ![2]⟩ 32) (a2 : FVec Ideal ⟨2, ![2, 2048]⟩ .f32)
    (a3 : FVec Ideal ⟨2, ![768, 1]⟩ .f32) (a4 : FVec Ideal ⟨1, ![1]⟩ .f32) (a5 : FVec Ideal ⟨2, ![1536, 768]⟩ .f32)
    (a6 a7 a8 : FVec Ideal ⟨1, ![768]⟩ .f32) (a9 : FVec Ideal ⟨2, ![768, 1]⟩ .f32) (a10 : FVec Ideal ⟨1, ![1]⟩ .f32)
    (a11 : FVec Ideal ⟨2, ![1536, 768]⟩ .f32) (a12 : FVec Ideal ⟨1, ![768]⟩ .f32) (a13 : FVec Ideal ⟨2, ![768, 1]⟩ .f32)
    (h : Cert.Pre_finite_start.fn (F := Ideal) a0 a1 a2 a3 a4 a5 a6 a7 a8 a9 a10 a11 a12 a13 = fun _ => 1#1) :
    (∀ j, (a1 j).toNat ≤ 2047) ∧ (∀ j, ∃ r : ℝ, (a0 j : EReal) = r) ∧ (∀ j, ∃ r : ℝ, (a2 j : EReal) = r)
      ∧ (∀ j, ∃ r : ℝ, (a3 j : EReal) = r) ∧ ∀ j, ∃ r : ℝ, (a4 j : EReal) = r := by
  have e := congrFun h (fun a => a.elim0)
  obtain ⟨e, e4⟩ := and_one e
  obtain ⟨e, e3⟩ := and_one e
  obtain ⟨e, e2⟩ := and_one e
  obtain ⟨e1, e0⟩ := and_one e
  exact ⟨fun j => word_range (Host.reduce_andi_all _ _ _ _ _ e1 j),
    fun j => real_of_olt _ (Host.reduce_andi_all _ _ _ _ _ e0 j), fun j => real_of_olt _ (Host.reduce_andi_all _ _ _ _ _ e2 j),
    fun j => real_of_olt _ (Host.reduce_andi_all _ _ _ _ _ e3 j), fun j => real_of_olt _ (Host.reduce_andi_all _ _ _ _ _ e4 j)⟩

end Squad
-- ==== Proof.WordBound.lean ====
/-
  The row number a start round picks stays inside the array, whatever the floats are: a round takes the least of
  2048 words each of which is a lane number or 2047, so the word it takes is at most 2047.
-/
module

public import Idealize.ShloMosaic.PureOps.Reduce
public import Idealize.ShloMosaic.Lib.SortNet.Extract
public import Idealize.ShloMosaic.Lib.WordCmp

@[expose] public section

namespace Squad

open Idealize.ShloMosaic

/-- The least, read signed, of a nonempty family of words in `[0, 2047]` is in `[0, 2047]`. -/
theorem toInt_least_mem {ι : Type} [DecidableEq ι] (g : ι → BitVec 32) (s : Finset ι)
    (hg : ∀ i, 0 ≤ (g i).toInt ∧ (g i).toInt ≤ 2047) :
    0 ≤ (s.fold IntOp.minsi 2147483647#32 g).toInt ∧
      (s.Nonempty → (s.fold IntOp.minsi 2147483647#32 g).toInt ≤ 2047) := by
  refine Finset.induction_on s ⟨by rw [Finset.fold_empty]; decide, fun h => absurd h (by simp)⟩ ?_
  intro a s ha ih
  rw [Finset.fold_insert ha, SortNet.toInt_minsi]
  exact ⟨le_min (hg a).1 ih.1, fun _ => le_trans (min_le_left _ _) (hg a).2⟩

/-- A word in `[0, 2047]` read signed is in `[0, 2047]` read unsigned. -/
theorem toNat_le_of_toInt {w : BitVec 32} (h0 : 0 ≤ w.toInt) (h1 : w.toInt ≤ 2047) : w.toNat ≤ 2047 := by
  rw [BitVec.toInt_eq_toNat_cond] at h0 h1
  have := w.isLt
  split_ifs at h0 h1 <;> omega

/-- The least of the lane numbers under a mask, 2047 standing where the mask is off, is at most 2047, provided the
    lane numbers are and some index reduces to the result's. -/
theorem least_lane_le {s t : Shape} {axes : List (Fin s.rank)} (mask : IVec s 1) (lanes : IVec s 32)
    (hl : ∀ i, 0 ≤ (lanes i).toInt ∧ (lanes i).toInt ≤ 2047) (h : s.Reduces axes t) (hacc : _) (j : t.Idx)
    (hj : ∃ i, h.drop i = j) :
    (multiReductionI .minsi axes t (select mask lanes (broadcast s 2047#32)) 2147483647#32 h hacc j).toNat ≤ 2047 := by
  classical
  rw [multiReductionI_eq_fold]
  have hg : ∀ i, 0 ≤ (select mask lanes (broadcast s 2047#32) i).toInt ∧
      (select mask lanes (broadcast s 2047#32) i).toInt ≤ 2047 := fun i => by
    unfold select Scalar.select broadcast
    split_ifs
    · exact hl i
    · decide
  obtain ⟨i, hi⟩ := hj
  have hs := toInt_least_mem _ (Finset.univ.filter fun i => h.drop i = j) hg
  exact toNat_le_of_toInt hs.1 (hs.2 ⟨i, by simp [hi]⟩)

end Squad

end
-- ==== Proof.KernelWords.lean ====
/-
  The frame claim of the kernel as it is run: the precondition bounds every class word, and the frame follows.
-/
module

public import proofs.«01_k».proof.Proof.Pre
public import proofs.«01_k».proof.Proof.KernelFrame

@[expose] public section

set_option maxRecDepth 16384

namespace Cert.Kernel.Body

open Cert.Kernel Cert.Kernel.Gen
open Idealize.ShloMosaic Idealize.ShloMosaic.TcCoe Idealize.SL.Sem

/-- The block of class words is read from the argument array, so a bound on the array's words bounds the block's. -/
theorem wordsOk_of_le {F : FTy → Type} [FloatOps F] (m : (ℓ : Loc nD τ sig) → Buf (Elt F) ℓ)
    (h : ∀ (c : Dev nD) (j : S2.Idx), (m ((c : Thread nD τ).loc main_arg1) j : BitVec 32).toNat ≤ 2047) : WordsOk m := fun c t j => by
  unfold iblk
  rw [View.read_apply, cast_eq]
  refine chk6 _ ?_
  rw [show V m c (Pipeline.arrRef spec0 0) = m ((c : Thread nD τ).loc main_arg1) from V_main_arg1 m c]
  exact h c _

/-- The program's frame under `index_in_range`. -/
theorem claim_frame : Cert.quiescent_Kernel := fun m ρ hp =>
  frame m ρ (wordsOk_of_le m fun c j => Squad.index_range _ _ _ _ _ _ _ _ _ _ _ _ _ _ (hp c) j)

end Cert.Kernel.Body
-- ==== Proof.IdealChecks.lean ====
/-
  The rows the body loads by a word lie inside the block of hidden rows. The five words the start rounds pick are
  in range whatever the logits are (`Squad.least_lane_le`); the class word is in range where the array of class
  words is, which is what the precondition says.
-/
module

public import proofs.«01_k».proof.Proof.Gen.KernelIdeal.Frame
public import proofs.«01_k».proof.Proof.Gen.KernelIdeal.Skeleton
public import proofs.«01_k».proof.Proof.WordBound

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The lane numbers of one row of 2048 lanes. -/
abbrev lanes : IVec S1x2048 32 := iota .tc S1x2048 32 [1] iota_S1x2048_d1_w32

/-- Every lane number lies in [0, 2047]. -/
theorem lanes_mem (i : S1x2048.Idx) : 0 ≤ (lanes i).toInt ∧ (lanes i).toInt ≤ 2047 := by
  have h : (i 1).val < 2048 := (i 1).isLt
  show 0 ≤ (BitVec.ofNat 32 (0 * 2048 + (i 1).val)).toInt ∧ (BitVec.ofNat 32 (0 * 2048 + (i 1).val)).toInt ≤ 2047
  generalize (i 1).val = n at h
  rw [BitVec.toInt_eq_toNat_cond, BitVec.toNat_ofNat, Nat.mod_eq_of_lt (by omega)]
  split_ifs <;> omega

/-- The least lane number under a mask, as the rounds take it, is at most 2047. -/
theorem least_le (mask : IVec S1x2048 1) (j : S1.Idx) :
    (multiReductionI .minsi [1] S1 (select mask lanes (broadcast S1x2048 2047#32)) 2147483647#32 reduces_S1x2048_S1 rfl j).toNat ≤ 2047 :=
  Squad.least_lane_le mask lanes lanes_mem _ _ _ ⟨fun _ => ⟨0, by decide +revert⟩, funext fun a => Fin.ext (by
    fin_cases a
    have h1 := (j 0).isLt
    have h2 := ((reduces_S1x2048_S1.drop fun _ => ⟨0, by decide +revert⟩) 0).isLt
    exact (Nat.lt_one_iff.mp h2).trans (Nat.lt_one_iff.mp h1).symm)⟩

/-- A word at most 2047 names a row inside the block. -/
theorem row_inb (w : BitVec 32) (h : w.toNat ≤ 2047) :
    ∀ a, (![0, (Scalar.indexCast w : Index).toNat, 0] : Fin 3 → Nat) a + S1x1x768.size a ≤ S1x2048x768.size a := by
  intro a
  fin_cases a
  · exact le_refl 1
  · show w.toNat + 1 ≤ 2048
    omega
  · exact le_refl 768

/-! The rows the five start rounds load lie inside the block, whatever the logits are. -/

theorem chk1 (v0 : Vec F S1x2048x768 .f32) (v2 : Vec F S1x2048x1 .f32) (v4 : Vec F S768x1 .f32) (v6 : Vec F S1x1 .f32) (h) :
    k0_chk1 (extractAt ![0, 0] (k0_pay11 v0 v2 v4 v6) h) := row_inb _ (least_le _ _)
theorem chk2 (v36 : FVec F S1x2048 .f32) (h) : k0_chk2 (extractAt ![0, 0] (k0_pay15 lanes v36) h) := row_inb _ (least_le _ _)
theorem chk3 (v36 : FVec F S1x2048 .f32) (h) : k0_chk3 (extractAt ![0, 0] (k0_pay19 lanes v36) h) := row_inb _ (least_le _ _)
theorem chk4 (v36 : FVec F S1x2048 .f32) (h) : k0_chk4 (extractAt ![0, 0] (k0_pay24 (k0_pay23 lanes v36)) h) :=
  row_inb _ (least_le _ _)
theorem chk5 (v68 : FVec F S1x2048 .f32) (v79 : IVec S1 32) (h) : k0_chk5 (extractAt ![0, 0] (k0_pay27 lanes v68 v79) h) :=
  row_inb _ (least_le _ _)
/-- Where every word of the array of class words passes the check, the word a load reads there does. -/
theorem chk6_read {m : Memref sig .tc .smem S2 .i32} (hm : m.IsWhole) {x : Vec F S2 .i32} (hw : ∀ j, k0_chk6 (x j))
    (r : LoadRect S2) (y : r.shape.Idx) : k0_chk6 (m.view.readAt (Elt F) r (hm.unread x) y) := by
  rw [View.readAt_apply, hm.read_unread]; exact hw _
/-- A class word at most 2047 names a row inside the block. -/
theorem chk6 (w : BitVec 32) (h : w.toNat ≤ 2047) : k0_chk6 w := row_inb _ h

end Cert.KernelIdeal.Body

end
-- ==== Proof.IdealRun.lean ====
/-
  The kernel's body run once, on any staging buffers: from the inputs' contents to what each output's buffer holds.
  The pieces the run leaves in the five output buffers are the witness; the rows loaded by a word are in range by
  the checks of `IdealChecks`, the class word by the hypothesis `hw`.
-/
module

public import proofs.«01_k».proof.Proof.IdealChecks

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in each output's buffer, as pieces, WITH the proof that on whole staging buffers, the
    inputs' at `x0 … x15` and the outputs' at anything, the body runs to its end holding the inputs as they were and each
    output's buffer with its pieces written. -/
noncomputable def run (c : Dev nD) (i : grid0.Coords)
    (arg1 : Memref sig .tc .smem S2 .i32) (harg1 : arg1.IsWhole)
    (arg2 : Memref sig .tc .vmem S1x2048x768 .f32) (harg2 : arg2.IsWhole)
    (arg3 : Memref sig .tc .vmem S1x2048x1 .f32) (harg3 : arg3.IsWhole)
    (arg4 : Memref sig .tc .vmem S768x1 .f32) (harg4 : arg4.IsWhole)
    (arg5 : Memref sig .tc .vmem S1x1 .f32) (harg5 : arg5.IsWhole)
    (arg6 : Memref sig .tc .vmem S768x768 .f32) (harg6 : arg6.IsWhole)
    (arg7 : Memref sig .tc .vmem S768x768 .f32) (harg7 : arg7.IsWhole)
    (arg8 : Memref sig .tc .vmem S1x768 .f32) (harg8 : arg8.IsWhole)
    (arg9 : Memref sig .tc .vmem S1x768 .f32) (harg9 : arg9.IsWhole)
    (arg10 : Memref sig .tc .vmem S1x768 .f32) (harg10 : arg10.IsWhole)
    (arg11 : Memref sig .tc .vmem S768x1 .f32) (harg11 : arg11.IsWhole)
    (arg12 : Memref sig .tc .vmem S1x1 .f32) (harg12 : arg12.IsWhole)
    (arg13 : Memref sig .tc .vmem S768x768 .f32) (harg13 : arg13.IsWhole)
    (arg14 : Memref sig .tc .vmem S768x768 .f32) (harg14 : arg14.IsWhole)
    (arg15 : Memref sig .tc .vmem S1x768 .f32) (harg15 : arg15.IsWhole)
    (arg16 : Memref sig .tc .vmem S768x1 .f32) (harg16 : arg16.IsWhole)
    (arg17 : Memref sig .tc .vmem S1x1x5 .f32) (harg17 : arg17.IsWhole)
    (arg18 : Memref sig .tc .vmem S1x1x5 .i32) (harg18 : arg18.IsWhole)
    (arg19 : Memref sig .tc .vmem S1x5x5 .f32) (harg19 : arg19.IsWhole)
    (arg20 : Memref sig .tc .vmem S1x5x5 .i32) (harg20 : arg20.IsWhole)
    (arg21 : Memref sig .tc .vmem S1x1x1 .f32) (harg21 : arg21.IsWhole)
    (x0 : Vec F S2 .i32)
    (x1 : Vec F S1x2048x768 .f32)
    (x2 : Vec F S1x2048x1 .f32)
    (x3 : Vec F S768x1 .f32)
    (x4 : Vec F S1x1 .f32)
    (x5 : Vec F S768x768 .f32)
    (x6 : Vec F S768x768 .f32)
    (x7 : Vec F S1x768 .f32)
    (x8 : Vec F S1x768 .f32)
    (x9 : Vec F S1x768 .f32)
    (x10 : Vec F S768x1 .f32)
    (x11 : Vec F S1x1 .f32)
    (x12 : Vec F S768x768 .f32)
    (x13 : Vec F S768x768 .f32)
    (x14 : Vec F S1x768 .f32)
    (x15 : Vec F S768x1 .f32)
    (hw : ∀ j, k0_chk6 (x0 j)) :
    Σ' (L16 : List (View.Piece (Elt F) S1x1x5 .f32)) (L17 : List (View.Piece (Elt F) S1x1x5 .i32))
      (L18 : List (View.Piece (Elt F) S1x5x5 .f32)) (L19 : List (View.Piece (Elt F) S1x5x5 .i32)),
      { L20 : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20)) -∗ K ⟨⟩))
          ⊢ wp frame (wpE (defs₀ (F := F)) Variants.none c none) E
              (cc0__squad_head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, fun E K => ?run⟩
  case run =>
    simp only [cc0__squad_head_kernel_eq_skeleton]; unfold cc0__squad_head_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12; obtain rfl := harg14.eq_unread hf13; obtain rfl := harg15.eq_unread hf14; obtain rfl := harg16.eq_unread hf15
    sl_exec (disch := first
      | (guard_target = k0_chk1 _; exact chk1 _ _ _ _ _) | (guard_target = k0_chk2 _; exact chk2 _ _)
      | (guard_target = k0_chk3 _; exact chk3 _ _) | (guard_target = k0_chk4 _; exact chk4 _ _)
      | (guard_target = k0_chk5 _; exact chk5 _ _ _)
      | (guard_target = k0_chk6 _; exact chk6_read harg1 hw _ _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    iexists _; iexact H20

end Cert.KernelIdeal.Body

end
-- ==== Proof.IdealFrame.lean ====
/-
  The launch around the body: what every staging buffer holds at every point of the grid, the body's triple at a
  generic point, the run of the whole program, and its frame — under the hypothesis `WordsOk`, that the words of
  the array of class words name rows inside the block.
-/
module

public import proofs.«01_k».proof.Proof.IdealRun
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Staging buffers -/

abbrev ms0 (t : Fin cfg0.N) : Memref sig .tc .smem S2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S768x768 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S768x768 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x768 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x768 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x768 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S768x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S768x768 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S768x768 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x768 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S768x1 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x1x5 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x1x5 .i32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x5x5 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S1x5x5 .i32 := win0_19.stage (cfg0.slots t 19)
abbrev hs19 (t : Fin cfg0.N) : (ms19 t).IsWhole := hstage0_19 ((cfg0.slots t 19).cast nbuf0_19)
abbrev ms20 (t : Fin cfg0.N) : Memref sig .tc .vmem S1x1x1 .f32 := win0_20.stage (cfg0.slots t 20)
abbrev hs20 (t : Fin cfg0.N) : (ms20 t).IsWhole := hstage0_20 ((cfg0.slots t 20).cast nbuf0_20)
abbrev VO16 : View sig .tc .vmem S1x1x5 .f32 := (Memref.whole cc0_stg16_0 : Memref sig .tc .vmem S1x1x5 .f32).view
abbrev VO17 : View sig .tc .vmem S1x1x5 .i32 := (Memref.whole cc0_stg17_0 : Memref sig .tc .vmem S1x1x5 .i32).view
abbrev VO18 : View sig .tc .vmem S1x5x5 .f32 := (Memref.whole cc0_stg18_0 : Memref sig .tc .vmem S1x5x5 .f32).view
abbrev VO19 : View sig .tc .vmem S1x5x5 .i32 := (Memref.whole cc0_stg19_0 : Memref sig .tc .vmem S1x5x5 .i32).view
abbrev VO20 : View sig .tc .vmem S1x1x1 .f32 := (Memref.whole cc0_stg20_0 : Memref sig .tc .vmem S1x1x1 .f32).view

/-! ## What the body leaves at a point -/

/-- Every word the body may load its class row by names a row inside the block. -/
def WordsOk : Prop := ∀ (c : Dev nD) (t : Fin cfg0.N) (j : S2.Idx), k0_chk6 (iblk m c 0 t j)

variable (hw : WordsOk m)

/-- The body's run at point `t`, its inputs at their blocks. -/
noncomputable abbrev runAt (c : Dev nD) (t : Fin cfg0.N) :=
  run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (hw c t)

/-- The pieces output 1 ends with cover its block. -/
theorem cover16 (c : Dev nD) (t : Fin cfg0.N) (y : S1x1x5.Idx) : ∃ pc ∈ (runAt m hw c t).1, y ∈ pc.1.set :=
  View.cover_of_tiledL (runAt m hw c t).1 S1x1x5.size (by sl_kernel_rfl) y
/-- What output 1's block is left at. -/
def out16 (c : Dev nD) (t : Fin cfg0.N) : Vec F S1x1x5 .f32 :=
  VO16.read (Elt F) (VO16.writes (Elt F) VO16.junk (runAt m hw c t).1)
/-- The pieces output 2 ends with cover its block. -/
theorem cover17 (c : Dev nD) (t : Fin cfg0.N) (y : S1x1x5.Idx) : ∃ pc ∈ (runAt m hw c t).2.1, y ∈ pc.1.set :=
  View.cover_of_tiledL (runAt m hw c t).2.1 S1x1x5.size (by sl_kernel_rfl) y
/-- What output 2's block is left at. -/
def out17 (c : Dev nD) (t : Fin cfg0.N) : Vec F S1x1x5 .i32 :=
  VO17.read (Elt F) (VO17.writes (Elt F) VO17.junk (runAt m hw c t).2.1)
/-- The pieces output 3 ends with cover its block. -/
theorem cover18 (c : Dev nD) (t : Fin cfg0.N) (y : S1x5x5.Idx) : ∃ pc ∈ (runAt m hw c t).2.2.1, y ∈ pc.1.set :=
  View.cover_of_tiledL (runAt m hw c t).2.2.1 S1x5x5.size (by sl_kernel_rfl) y
/-- What output 3's block is left at. -/
def out18 (c : Dev nD) (t : Fin cfg0.N) : Vec F S1x5x5 .f32 :=
  VO18.read (Elt F) (VO18.writes (Elt F) VO18.junk (runAt m hw c t).2.2.1)
/-- The pieces output 4 ends with cover its block. -/
theorem cover19 (c : Dev nD) (t : Fin cfg0.N) (y : S1x5x5.Idx) : ∃ pc ∈ (runAt m hw c t).2.2.2.1, y ∈ pc.1.set :=
  View.cover_of_tiledL (runAt m hw c t).2.2.2.1 S1x5x5.size (by sl_kernel_rfl) y
/-- What output 4's block is left at. -/
def out19 (c : Dev nD) (t : Fin cfg0.N) : Vec F S1x5x5 .i32 :=
  VO19.read (Elt F) (VO19.writes (Elt F) VO19.junk (runAt m hw c t).2.2.2.1)
/-- The pieces output 5 ends with cover its block. -/
theorem cover20 (c : Dev nD) (t : Fin cfg0.N) (y : S1x1x1.Idx) : ∃ pc ∈ (runAt m hw c t).2.2.2.2.1, y ∈ pc.1.set :=
  View.cover_of_tiledL (runAt m hw c t).2.2.2.2.1 S1x1x1.size (by sl_kernel_rfl) y
/-- What output 5's block is left at. -/
def out20 (c : Dev nD) (t : Fin cfg0.N) : Vec F S1x1x1 .f32 :=
  VO20.read (Elt F) (VO20.writes (Elt F) VO20.junk (runAt m hw c t).2.2.2.2.1)

/-! ## The proof data -/

/-- What each window's array holds and what its staging buffer holds at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 m hw c t
    | ⟨17, _⟩ => out17 m hw c t
    | ⟨18, _⟩ => out18 m hw c t
    | ⟨19, _⟩ => out19 m hw c t
    | ⟨20, _⟩ => out20 m hw c t
    | ⟨_ + 21, h⟩ => absurd h (Nat.not_lt.2 (Nat.le_add_left _ _))
  Φ _ := Pipeline.ΦA spec0 c
  q _ := fullShare
  owed _ := 0

/-- Each array at the launch is what the host lines before it left. -/
theorem A_eq (c : Dev nD) (w) : (dats m hw 0 c).A w = V m c (Pipeline.arrRef spec0 w) := by dsimp only [dats]
/-! What each staging buffer holds after the body, by window: an input its block, an output what the body leaves. -/

theorem after_0 (c : Dev nD) (t : Fin cfg0.N) : (dats m hw 0 c).after 0 t = iblk m c 0 t := by dsimp only [dats]
theorem after_1 (c : Dev nD) (t : Fin cfg0.N) : (dats m hw 0 c).after 1 t = iblk m c 1 t := by dsimp only [dats]
theorem after_2 (c : Dev nD) (t : Fin cfg0.N) : (dats m hw 0 c).after 2 t = iblk m c 2 t := by dsimp only [dats]
theorem after_3 (c : Dev nD) (t : Fin cfg0.N) : (dats m hw 0 c).after 3 t = iblk m c 3 t := by dsimp only [dats]
theorem after_4 (c : Dev nD) (t : Fin cfg0.N) : (dats m hw 0 c).after 4 t = iblk m c 4 t := by dsimp only [dats]
theorem after_5 (c : Dev nD) (t : Fin cfg0.N) : (dats m hw 0 c).after 5 t = iblk m c 5 t := by dsimp only [dats]
theorem after_6 (c : Dev nD) (t : Fin cfg0.N) : (dats m hw 0 c).after 6 t = iblk m c 6 t := by dsimp only [dats]
theorem after_7 (c : Dev nD) (t : Fin cfg0.N) : (dats m hw 0 c).after 7 t = iblk m c 7 t := by dsimp only [dats]
theorem after_8 (c : Dev nD) (t : Fin cfg0.N) : (dats m hw 0 c).after 8 t = iblk m c 8 t := by dsimp only [dats]
theorem after_9 (c : Dev nD) (t : Fin cfg0.N) : (dats m hw 0 c).after 9 t = iblk m c 9 t := by dsimp only [dats]
theorem after_10 (c : Dev nD) (t : Fin cfg0.N) : (dats m hw 0 c).after 10 t = iblk m c 10 t := by dsimp only [dats]
theorem after_11 (c : Dev nD) (t : Fin cfg0.N) : (dats m hw 0 c).after 11 t = iblk m c 11 t := by dsimp only [dats]
theorem after_12 (c : Dev nD) (t : Fin cfg0.N) : (dats m hw 0 c).after 12 t = iblk m c 12 t := by dsimp only [dats]
theorem after_13 (c : Dev nD) (t : Fin cfg0.N) : (dats m hw 0 c).after 13 t = iblk m c 13 t := by dsimp only [dats]
theorem after_14 (c : Dev nD) (t : Fin cfg0.N) : (dats m hw 0 c).after 14 t = iblk m c 14 t := by dsimp only [dats]
theorem after_15 (c : Dev nD) (t : Fin cfg0.N) : (dats m hw 0 c).after 15 t = iblk m c 15 t := by dsimp only [dats]
theorem after_16 (c : Dev nD) (t : Fin cfg0.N) : (dats m hw 0 c).after 16 t = out16 m hw c t := by dsimp only [dats]
theorem after_17 (c : Dev nD) (t : Fin cfg0.N) : (dats m hw 0 c).after 17 t = out17 m hw c t := by dsimp only [dats]
theorem after_18 (c : Dev nD) (t : Fin cfg0.N) : (dats m hw 0 c).after 18 t = out18 m hw c t := by dsimp only [dats]
theorem after_19 (c : Dev nD) (t : Fin cfg0.N) : (dats m hw 0 c).after 19 t = out19 m hw c t := by dsimp only [dats]
theorem after_20 (c : Dev nD) (t : Fin cfg0.N) : (dats m hw 0 c).after 20 t = out20 m hw c t := by dsimp only [dats]

/-! What each input staging buffer holds before the body: its block. -/

theorem before_0 (c : Dev nD) (t : Fin cfg0.N) (d) : (dats m hw 0 c).before 0 t d = iblk m c 0 t :=
  before0_0_of m (dats m hw 0 c) (A_eq m hw c 0) (after_0 m hw c) t d
theorem before_1 (c : Dev nD) (t : Fin cfg0.N) (d) : (dats m hw 0 c).before 1 t d = iblk m c 1 t :=
  before0_1_of m (dats m hw 0 c) (A_eq m hw c 1) (after_1 m hw c) t d
theorem before_2 (c : Dev nD) (t : Fin cfg0.N) (d) : (dats m hw 0 c).before 2 t d = iblk m c 2 t :=
  before0_2_of m (dats m hw 0 c) (A_eq m hw c 2) (after_2 m hw c) t d
theorem before_3 (c : Dev nD) (t : Fin cfg0.N) (d) : (dats m hw 0 c).before 3 t d = iblk m c 3 t :=
  before0_3_of m (dats m hw 0 c) (A_eq m hw c 3) (after_3 m hw c) t d
theorem before_4 (c : Dev nD) (t : Fin cfg0.N) (d) : (dats m hw 0 c).before 4 t d = iblk m c 4 t :=
  before0_4_of m (dats m hw 0 c) (A_eq m hw c 4) (after_4 m hw c) t d
theorem before_5 (c : Dev nD) (t : Fin cfg0.N) (d) : (dats m hw 0 c).before 5 t d = iblk m c 5 t :=
  before0_5_of m (dats m hw 0 c) (A_eq m hw c 5) (after_5 m hw c) t d
theorem before_6 (c : Dev nD) (t : Fin cfg0.N) (d) : (dats m hw 0 c).before 6 t d = iblk m c 6 t :=
  before0_6_of m (dats m hw 0 c) (A_eq m hw c 6) (after_6 m hw c) t d
theorem before_7 (c : Dev nD) (t : Fin cfg0.N) (d) : (dats m hw 0 c).before 7 t d = iblk m c 7 t :=
  before0_7_of m (dats m hw 0 c) (A_eq m hw c 7) (after_7 m hw c) t d
theorem before_8 (c : Dev nD) (t : Fin cfg0.N) (d) : (dats m hw 0 c).before 8 t d = iblk m c 8 t :=
  before0_8_of m (dats m hw 0 c) (A_eq m hw c 8) (after_8 m hw c) t d
theorem before_9 (c : Dev nD) (t : Fin cfg0.N) (d) : (dats m hw 0 c).before 9 t d = iblk m c 9 t :=
  before0_9_of m (dats m hw 0 c) (A_eq m hw c 9) (after_9 m hw c) t d
theorem before_10 (c : Dev nD) (t : Fin cfg0.N) (d) : (dats m hw 0 c).before 10 t d = iblk m c 10 t :=
  before0_10_of m (dats m hw 0 c) (A_eq m hw c 10) (after_10 m hw c) t d
theorem before_11 (c : Dev nD) (t : Fin cfg0.N) (d) : (dats m hw 0 c).before 11 t d = iblk m c 11 t :=
  before0_11_of m (dats m hw 0 c) (A_eq m hw c 11) (after_11 m hw c) t d
theorem before_12 (c : Dev nD) (t : Fin cfg0.N) (d) : (dats m hw 0 c).before 12 t d = iblk m c 12 t :=
  before0_12_of m (dats m hw 0 c) (A_eq m hw c 12) (after_12 m hw c) t d
theorem before_13 (c : Dev nD) (t : Fin cfg0.N) (d) : (dats m hw 0 c).before 13 t d = iblk m c 13 t :=
  before0_13_of m (dats m hw 0 c) (A_eq m hw c 13) (after_13 m hw c) t d
theorem before_14 (c : Dev nD) (t : Fin cfg0.N) (d) : (dats m hw 0 c).before 14 t d = iblk m c 14 t :=
  before0_14_of m (dats m hw 0 c) (A_eq m hw c 14) (after_14 m hw c) t d
theorem before_15 (c : Dev nD) (t : Fin cfg0.N) (d) : (dats m hw 0 c).before 15 t d = iblk m c 15 t :=
  before0_15_of m (dats m hw 0 c) (A_eq m hw c 15) (after_15 m hw c) t d

/-! ## The body at a generic point -/

/-- What the body is called with at point `t`. -/
def bodyPre (c : Dev nD) (t : Fin cfg0.N) : sProp 𝕄 :=
  iprop((dats m hw 0 c).Φ t.castSucc ∗ (dats m hw 0 c).owesAt () t.castSucc
    ∗ (∃ d, owns (c : Thread nD τ) (ms0 t) fullShare ((dats m hw 0 c).before 0 t d))
    ∗ (∃ d, owns (c : Thread nD τ) (ms1 t) fullShare ((dats m hw 0 c).before 1 t d))
    ∗ (∃ d, owns (c : Thread nD τ) (ms2 t) fullShare ((dats m hw 0 c).before 2 t d))
    ∗ (∃ d, owns (c : Thread nD τ) (ms3 t) fullShare ((dats m hw 0 c).before 3 t d))
    ∗ (∃ d, owns (c : Thread nD τ) (ms4 t) fullShare ((dats m hw 0 c).before 4 t d))
    ∗ (∃ d, owns (c : Thread nD τ) (ms5 t) fullShare ((dats m hw 0 c).before 5 t d))
    ∗ (∃ d, owns (c : Thread nD τ) (ms6 t) fullShare ((dats m hw 0 c).before 6 t d))
    ∗ (∃ d, owns (c : Thread nD τ) (ms7 t) fullShare ((dats m hw 0 c).before 7 t d))
    ∗ (∃ d, owns (c : Thread nD τ) (ms8 t) fullShare ((dats m hw 0 c).before 8 t d))
    ∗ (∃ d, owns (c : Thread nD τ) (ms9 t) fullShare ((dats m hw 0 c).before 9 t d))
    ∗ (∃ d, owns (c : Thread nD τ) (ms10 t) fullShare ((dats m hw 0 c).before 10 t d))
    ∗ (∃ d, owns (c : Thread nD τ) (ms11 t) fullShare ((dats m hw 0 c).before 11 t d))
    ∗ (∃ d, owns (c : Thread nD τ) (ms12 t) fullShare ((dats m hw 0 c).before 12 t d))
    ∗ (∃ d, owns (c : Thread nD τ) (ms13 t) fullShare ((dats m hw 0 c).before 13 t d))
    ∗ (∃ d, owns (c : Thread nD τ) (ms14 t) fullShare ((dats m hw 0 c).before 14 t d))
    ∗ (∃ d, owns (c : Thread nD τ) (ms15 t) fullShare ((dats m hw 0 c).before 15 t d))
    ∗ (∃ d, owns (c : Thread nD τ) (ms16 t) fullShare ((dats m hw 0 c).before 16 t d))
    ∗ (∃ d, owns (c : Thread nD τ) (ms17 t) fullShare ((dats m hw 0 c).before 17 t d))
    ∗ (∃ d, owns (c : Thread nD τ) (ms18 t) fullShare ((dats m hw 0 c).before 18 t d))
    ∗ (∃ d, owns (c : Thread nD τ) (ms19 t) fullShare ((dats m hw 0 c).before 19 t d))
    ∗ (∃ d, owns (c : Thread nD τ) (ms20 t) fullShare ((dats m hw 0 c).before 20 t d)))

/-- What the body returns at point `t`. -/
def bodyPost (c : Dev nD) (t : Fin cfg0.N) : sProp 𝕄 :=
  iprop((dats m hw 0 c).Φ t.succ ∗ (dats m hw 0 c).owesAt () t.succ
    ∗ owns (c : Thread nD τ) (ms0 t) fullShare ((dats m hw 0 c).after 0 t)
    ∗ owns (c : Thread nD τ) (ms1 t) fullShare ((dats m hw 0 c).after 1 t)
    ∗ owns (c : Thread nD τ) (ms2 t) fullShare ((dats m hw 0 c).after 2 t)
    ∗ owns (c : Thread nD τ) (ms3 t) fullShare ((dats m hw 0 c).after 3 t)
    ∗ owns (c : Thread nD τ) (ms4 t) fullShare ((dats m hw 0 c).after 4 t)
    ∗ owns (c : Thread nD τ) (ms5 t) fullShare ((dats m hw 0 c).after 5 t)
    ∗ owns (c : Thread nD τ) (ms6 t) fullShare ((dats m hw 0 c).after 6 t)
    ∗ owns (c : Thread nD τ) (ms7 t) fullShare ((dats m hw 0 c).after 7 t)
    ∗ owns (c : Thread nD τ) (ms8 t) fullShare ((dats m hw 0 c).after 8 t)
    ∗ owns (c : Thread nD τ) (ms9 t) fullShare ((dats m hw 0 c).after 9 t)
    ∗ owns (c : Thread nD τ) (ms10 t) fullShare ((dats m hw 0 c).after 10 t)
    ∗ owns (c : Thread nD τ) (ms11 t) fullShare ((dats m hw 0 c).after 11 t)
    ∗ owns (c : Thread nD τ) (ms12 t) fullShare ((dats m hw 0 c).after 12 t)
    ∗ owns (c : Thread nD τ) (ms13 t) fullShare ((dats m hw 0 c).after 13 t)
    ∗ owns (c : Thread nD τ) (ms14 t) fullShare ((dats m hw 0 c).after 14 t)
    ∗ owns (c : Thread nD τ) (ms15 t) fullShare ((dats m hw 0 c).after 15 t)
    ∗ owns (c : Thread nD τ) (ms16 t) fullShare ((dats m hw 0 c).after 16 t)
    ∗ owns (c : Thread nD τ) (ms17 t) fullShare ((dats m hw 0 c).after 17 t)
    ∗ owns (c : Thread nD τ) (ms18 t) fullShare ((dats m hw 0 c).after 18 t)
    ∗ owns (c : Thread nD τ) (ms19 t) fullShare ((dats m hw 0 c).after 19 t)
    ∗ owns (c : Thread nD τ) (ms20 t) fullShare ((dats m hw 0 c).after 20 t))

set_option maxHeartbeats 2000000 in
/-- The body at any point, from what it is called with to what it returns. -/
theorem sound_body (c : Dev nD) (t : Fin cfg0.N) :
    bodyPre m hw c t ⊢ wp frame (wpE (defs₀ (F := F)) Variants.none c none) Set.univ (bodyAt0 t) (fun _ => bodyPost m hw c t) := by
  unfold bodyPre bodyPost bodyAt0
  simp only [before_0, before_1, before_2, before_3, before_4, before_5, before_6, before_7, before_8, before_9, before_10, before_11, before_12, before_13, before_14, before_15]
  rw [show (dats m hw 0 c).Φ t.succ = (dats m hw 0 c).Φ t.castSucc from rfl,
    show (dats m hw 0 c).owesAt () t.succ = (dats m hw 0 c).owesAt () t.castSucc from rfl,
    after_0, after_1, after_2, after_3, after_4, after_5, after_6, after_7, after_8, after_9, after_10, after_11, after_12, after_13, after_14, after_15, after_16, after_17, after_18, after_19, after_20]
  unfold out16 out17 out18 out19 out20
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runAt m hw c t).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover16 m hw c t)
  isplitl [H17]
  · unfold owns; iexists _; isplitr
    swap; · iexact H17
    ipureintro; exact View.read_writes_of_cover _ _ _ _ _ (cover17 m hw c t)
  isplitl [H18]
  · unfold owns; iexists _; isplitr
    swap; · iexact H18
    ipureintro; exact View.read_writes_of_cover _ _ _ _ _ (cover18 m hw c t)
  isplitl [H19]
  · unfold owns; iexists _; isplitr
    swap; · iexact H19
    ipureintro; exact View.read_writes_of_cover _ _ _ _ _ (cover19 m hw c t)
  unfold owns; iexists _; isplitr
  swap; · iexact H20
  ipureintro; exact View.read_writes_of_cover _ _ _ _ _ (cover20 m hw c t)

/-- The table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The launch's obligation on the body, at every point. -/
theorem body_obligation (c : Dev nD) : BodyObligation (dats (F := F) m hw 0 c) (defs₀ (F := F)) Variants.none () Set.univ := fun t => by
  rw [bigSep_W0, bigSep_W0, defs₀_row]
  exact triple_restated (sound_body m hw c t) rfl .rfl fun _ => .rfl

/-! ## The run and the frame -/

set_option backward.isDefEq.respectTransparency.types false in
set_option maxHeartbeats 800000 in
/-- The whole program runs; every array ends at what the proof data says, every semaphore at zero. -/
theorem run_main_quiescent : θ_run defs (onTc (τ := τ) (main (F := F))) (s₀ m ρ)
    (fun r => (Pipeline.FramePost cfgs (dats m hw) 0 (Pipeline.afterTail₀ cfgs (dats m hw) 0 (V0 m) [hostOps1])) r ∧ r.2.sem = fun _ => 0) :=
  Pipeline.θ_run_frame_around (Q' := _) cfgs (dats m hw) (0 : Fin 1) launch0 defs₀ Variants.none m ρ main
    (hbody := fun c => (body_obligation m hw c).loose) (hshare := fun c => (dats m hw 0 c).share_full fun _ => rfl)
    (howed := fun _ _ => rfl) (V₀ := V0 m) (opss := [hostOps1]) (hsub := sfx_sub) (hfresh := sfx_fresh) (hkeep := sfx_keeps)
    (hmain := hmain m Variants.none) (hA := A_eq m hw) (hΦ := fun _ _ => rfl)

/-- The run, without the semaphores. -/
theorem run_main : θ_run defs (onTc (τ := τ) (main (F := F))) (s₀ m ρ)
    (Pipeline.FramePost cfgs (dats m hw) 0 (Pipeline.afterTail₀ cfgs (dats m hw) 0 (V0 m) [hostOps1])) :=
  (θ_run defs _ _).mono (fun _ h => h.1) (run_main_quiescent m ρ hw)

include hw in
/-- The frame: the program runs, its argument arrays end unchanged, every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m hw) (A_eq m hw) (run_main m ρ hw))
    ((θ_run defs _ _).mono (fun _ h => h.2) (run_main_quiescent m ρ hw))

end Cert.KernelIdeal.Body

end
-- ==== Proof.IdealWords.lean ====
/-
  The frame claims of the idealized kernel: either precondition bounds every class word, and the frame follows.
-/
module

public import proofs.«01_k».proof.Proof.Pre
public import proofs.«01_k».proof.Proof.IdealFrame

@[expose] public section

set_option maxRecDepth 16384

namespace Cert.KernelIdeal.Body

open Cert.KernelIdeal Cert.KernelIdeal.Gen
open Idealize.ShloMosaic Idealize.ShloMosaic.TcCoe Idealize.SL.Sem

/-- The block of class words is read from the argument array, so a bound on the array's words bounds the block's. -/
theorem wordsOk_of_le {F : FTy → Type} [FloatOps F] (m : (ℓ : Loc nD τ sig) → Buf (Elt F) ℓ)
    (h : ∀ (c : Dev nD) (j : S2.Idx), (m ((c : Thread nD τ).loc main_arg1) j : BitVec 32).toNat ≤ 2047) : WordsOk m := fun c t j => by
  unfold iblk
  rw [View.read_apply, cast_eq]
  refine chk6 _ ?_
  rw [show V m c (Pipeline.arrRef spec0 0) = m ((c : Thread nD τ).loc main_arg1) from V_main_arg1 m c]
  exact h c _

/-- Under `index_in_range` every class word names a row. -/
theorem wordsOk_of_range (m : (ℓ : Loc nD τ sig) → Buf (Elt Ideal) ℓ) (hp : Pre_KernelIdeal m) : WordsOk m :=
  wordsOk_of_le m fun c j => Squad.index_range _ _ _ _ _ _ _ _ _ _ _ _ _ _ (hp c) j

/-- Under `finite_start` every class word names a row. -/
theorem wordsOk_of_finite (m : (ℓ : Loc nD τ sig) → Buf (Elt Ideal) ℓ) (hp : Pre_KernelIdeal_finite_start m) : WordsOk m :=
  wordsOk_of_le m fun c j => (Squad.finite_start _ _ _ _ _ _ _ _ _ _ _ _ _ _ (hp c)).1 j

/-- The idealized program's frame under `index_in_range`. -/
theorem claim_frame : Cert.quiescent_KernelIdeal := fun m ρ hp => frame m ρ (wordsOk_of_range m hp)

/-- The idealized program's frame under `finite_start`. -/
theorem claim_frame_finite : Cert.quiescent_KernelIdeal_pre_finite_start := fun m ρ hp => frame m ρ (wordsOk_of_finite m hp)

end Cert.KernelIdeal.Body
-- ==== Proof.RefFrame.lean ====
/-
  The frame claims of the reference: it runs, leaves its arguments as they were, and has no semaphore to leave up.
-/
module

public import proofs.«01_k».proof.Defs
public import proofs.«01_k».proof.Proof.Gen.ReferenceIdeal.Run
public import proofs.«01_k».proof.Proof.Gen.Pre_finite_start
public import Idealize.ShloMosaic.Lib.Quiescent

@[expose] public section

namespace Cert.ReferenceIdeal.Body

open Idealize.ShloMosaic Idealize.ShloMosaic.TcCoe Idealize.SL.Sem

/-- The reference's frame, from any memory. -/
theorem claim_frame : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The same under the precondition of the equation. -/
theorem claim_frame_finite : Cert.quiescent_ReferenceIdeal_pre_finite_start := fun m ρ _ => claim_frame m ρ trivial

end Cert.ReferenceIdeal.Body
-- ==== Proof.TopRow.lean ====
/-
  The rows of a top-k, with no program in sight. A row is a function from positions to extended reals. Two ways of
  taking its greatest elements, greatest first and the least position first among equals:

  * a stable sort of the positions by "greater", read from the front (`order`);
  * rounds: take the maximum, the least position that attains it, put a value below every element there, again.

  The rounds give what the sort gives, and the sort sees only how the elements compare.
-/
module

public import Idealize.ShloMosaic.PureOps.Ideal
public import Idealize.ShloMosaic.Lib.SortFacts
public import Idealize.ShloMosaic.Lib.Pointwise

@[expose] public section

noncomputable section

namespace Squad

open Idealize.ShloMosaic

/-! ## The sort -/

/-- Position `i` comes before position `j`: its element is greater, or equal and it lies to the left. -/
def Ahead {n : ℕ} (v : Fin n → EReal) (i j : Fin n) : Prop := v j < v i ∨ (v i = v j ∧ i < j)

/-- Coming ahead is transitive. -/
theorem Ahead.trans {n : ℕ} {v : Fin n → EReal} {i j k : Fin n} (h : Ahead v i j) (h' : Ahead v j k) : Ahead v i k := by
  rcases h with h | ⟨h, l⟩ <;> rcases h' with h' | ⟨h', l'⟩
  · exact .inl (h'.trans h)
  · exact .inl (h' ▸ h)
  · exact .inl (h ▸ h')
  · exact .inr ⟨h.trans h', l.trans l'⟩

/-- The comparison the sort uses: "greater". -/
def greater {n : ℕ} (v : Fin n → EReal) (i j : Fin n) : Bool := decide (v j < v i)

/-- The position of the `k`-th greatest element. -/
def order {n : ℕ} (v : Fin n → EReal) (k : Fin n) : Fin n := sortedFrom (greater v) k

/-- Inserting into an ordered list keeps it ordered. -/
theorem pairwise_insert {n : ℕ} (v : Fin n → EReal) (a : Fin n) (l : List (Fin n)) (hl : l.Pairwise (Ahead v))
    (ha : ∀ b ∈ l, a < b) : (insertBefore (greater v) a l).Pairwise (Ahead v) := by
  induction l with
  | nil => simp [insertBefore]
  | cons b l ih =>
    obtain ⟨hb, hl'⟩ := List.pairwise_cons.1 hl
    have hal : ∀ c ∈ l, a < c := fun c hc => ha c (List.mem_cons_of_mem _ hc)
    unfold insertBefore
    split
    · rename_i h
      have h : v a < v b := by simpa [greater] using h
      refine List.pairwise_cons.2 ⟨fun c hc => ?_, ih hl' hal⟩
      rcases List.mem_cons.1 ((perm_insertBefore _ a l).mem_iff.1 hc) with rfl | hc
      · exact .inl h
      · exact hb c hc
    · rename_i h
      have h : v b ≤ v a := by simpa [greater] using h
      have hab : Ahead v a b := h.lt_or_eq.imp id fun e => ⟨e.symm, ha b (List.mem_cons_self ..)⟩
      refine List.pairwise_cons.2 ⟨fun c hc => ?_, hl⟩
      rcases List.mem_cons.1 hc with rfl | hc
      · exact hab
      · exact hab.trans (hb c hc)

/-- The sorted list is ordered. -/
theorem pairwise_sort {n : ℕ} (v : Fin n → EReal) (l : List (Fin n)) (hl : l.Pairwise (· < ·)) :
    (stableSort (greater v) l).Pairwise (Ahead v) := by
  induction l with
  | nil => simp [stableSort]
  | cons a l ih =>
    obtain ⟨ha, hl'⟩ := List.pairwise_cons.1 hl
    exact pairwise_insert v a _ (ih hl') fun b hb => ha b ((perm_stableSort _ l).mem_iff.1 hb)

/-- The sort puts the positions in order. -/
theorem order_ahead {n : ℕ} (v : Fin n → EReal) {j k : Fin n} (h : j < k) : Ahead v (order v j) (order v k) :=
  List.pairwise_iff_get.1 (pairwise_sort v (List.finRange n) (List.pairwise_lt_finRange n)) (j.cast (length_sortPositions n _).symm) (k.cast (length_sortPositions n _).symm) h

/-- Rows that compare alike are sorted alike. -/
theorem order_congr {n : ℕ} (v w : Fin n → EReal) (h : ∀ i j, v i < v j ↔ w i < w j) : order v = order w := by
  unfold order
  rw [show greater v = greater w from funext fun i => funext fun j => decide_eq_decide.2 (h j i)]

/-! ## The rounds -/

/-- The greatest element. -/
def rowMax {n : ℕ} (v : Fin n → EReal) : EReal := Finset.univ.fold max ⊥ v

/-- The least position, as a word, at which the row attains its greatest element; `s` stands for "nowhere". -/
def rowArg {n : ℕ} (s : BitVec 32) (v : Fin n → EReal) : BitVec 32 :=
  Finset.univ.fold IntOp.minsi 2147483647#32 fun i => if v i = rowMax v then BitVec.ofNat 32 i else s

/-- One round: the row with `z` where it was greatest. -/
def rowStep {n : ℕ} (s : BitVec 32) (z : EReal) (v : Fin n → EReal) : Fin n → EReal :=
  fun i => if BitVec.ofNat 32 i = rowArg s v then z else v i

/-- A maximum of values at most `M` is at most `M`. -/
theorem fold_max_le {ι : Type} (s : Finset ι) (f : ι → EReal) (M : EReal) (h : ∀ i ∈ s, f i ≤ M) : s.fold max ⊥ f ≤ M :=
  (Finset.fold_max_le M).2 ⟨bot_le, h⟩

/-- No value exceeds the greatest. -/
theorem le_rowMax {n : ℕ} (v : Fin n → EReal) (i : Fin n) : v i ≤ rowMax v :=
  (Finset.le_fold_max (v i)).2 (.inr ⟨i, Finset.mem_univ i, le_rfl⟩)

/-- A value no other exceeds is the greatest. -/
theorem rowMax_eq {n : ℕ} (v : Fin n → EReal) (i : Fin n) (h : ∀ j, v j ≤ v i) : rowMax v = v i :=
  le_antisymm (fold_max_le _ _ _ fun j _ => h j) (le_rowMax v i)

/-- The greatest element of a non-empty row is one of its elements. -/
theorem exists_rowMax {n : ℕ} [NeZero n] (v : Fin n → EReal) : ∃ i, rowMax v = v i := by
  obtain ⟨i, _, hi⟩ := Finset.exists_max_image Finset.univ v ⟨0, Finset.mem_univ _⟩
  exact ⟨i, rowMax_eq v i fun j => hi j (Finset.mem_univ j)⟩

/-- A small number as a word reads back as itself. -/
theorem toInt_small {k : ℕ} (h : k ≤ 2048) : (BitVec.ofNat 32 k).toInt = k := by
  have e : (BitVec.ofNat 32 k).toNat = k := by simp; omega
  rw [BitVec.toInt_eq_toNat_of_lt (by omega), e]

/-- The signed minimum is the smaller word. -/
theorem minsi_of_le (x y : BitVec 32) (h : x.toInt ≤ y.toInt) : IntOp.minsi x y = x := by
  unfold IntOp.minsi
  split
  · rfl
  · rename_i h'
    simp only [BitVec.slt, decide_eq_true_eq, not_lt] at h'
    exact BitVec.eq_of_toInt_eq (le_antisymm h' h)

/-- A signed least element of a set of words. -/
theorem fold_minsi_eq {n : ℕ} (f : Fin n → BitVec 32) (i : Fin n) (h : ∀ j, (f i).toInt ≤ (f j).toInt) :
    Finset.univ.fold IntOp.minsi 2147483647#32 f = f i := by
  have e : (Finset.univ : Finset (Fin n)) = insert i (Finset.univ.erase i) := by simp
  rw [e, Finset.fold_insert (by simp)]
  refine minsi_of_le _ _ ?_
  have hm : (f i).toInt ≤ (2147483647#32 : BitVec 32).toInt := by
    have := BitVec.toInt_lt (x := f i)
    have e2 : (2147483647#32 : BitVec 32).toInt = 2147483647 := by decide
    omega
  generalize Finset.univ.erase i = s
  induction s using Finset.induction_on with
  | empty => simpa using hm
  | insert a s ha ih =>
    rw [Finset.fold_insert ha]
    unfold IntOp.minsi
    split
    · exact h a
    · exact ih

/-- The word is the least position that attains the greatest element. -/
theorem rowArg_eq {n : ℕ} (hn : n ≤ 2048) (s : BitVec 32) (hs : (n : ℤ) - 1 ≤ s.toInt) (v : Fin n → EReal) (i : Fin n)
    (h : ∀ j, v j ≤ v i) (hi : ∀ j, v j = v i → i ≤ j) : rowArg s v = BitVec.ofNat 32 i := by
  unfold rowArg
  rw [rowMax_eq v i h]
  rw [fold_minsi_eq _ i]
  · simp
  · intro j
    have := i.isLt; have := j.isLt
    simp only [if_true]
    rw [toInt_small (by omega)]
    split
    · rename_i e
      rw [toInt_small (by omega)]; exact_mod_cast hi j e
    · omega

/-- Small numbers are equal as words only if equal. -/
theorem ofNat_inj_small {n : ℕ} (hn : n ≤ 2048) (i j : Fin n) : BitVec.ofNat 32 i = BitVec.ofNat 32 j ↔ i = j := by
  refine ⟨fun h => ?_, fun h => h ▸ rfl⟩
  have e : ∀ a : Fin n, (BitVec.ofNat 32 (a : ℕ)).toNat = a := fun a => by have := a.isLt; simp; omega
  exact Fin.ext ((e i).symm.trans ((congrArg BitVec.toNat h).trans (e j)))

section Rounds

variable {n : ℕ} (hn : n ≤ 2048) (s : BitVec 32) (hs : (n : ℤ) - 1 ≤ s.toInt) (z : EReal) (v : Fin n → EReal)

/-- The row after `k` rounds: `z` at the `k` greatest positions, elsewhere as it was. -/
def masked (k : ℕ) : Fin n → EReal := fun i => if ∃ j : Fin n, (j : ℕ) < k ∧ i = order v j then z else v i

variable (hz : ∀ i, z < v i)

include hz in
/-- The greatest value left after `k` rounds is the one at place `k`. -/
theorem masked_top (k : Fin n) :
    masked z v k (order v k) = v (order v k) ∧ (∀ j, masked z v k j ≤ v (order v k))
      ∧ ∀ j, masked z v k j = v (order v k) → order v k ≤ j := by
  have inj := sortedFrom_injective (greater v)
  have surj := sortedFrom_surjective (greater v)
  have hk : masked z v k (order v k) = v (order v k) := by
    refine if_neg ?_
    rintro ⟨j, hj, e⟩
    rw [inj e] at hj
    exact lt_irrefl _ hj
  have key : ∀ j, masked z v k j < v (order v k) ∨ (masked z v k j = v (order v k) ∧ order v k ≤ j) := by
    intro j
    unfold masked
    split
    · exact .inl (hz _)
    · rename_i hj
      obtain ⟨a, rfl⟩ := surj j
      change v (order v a) < _ ∨ v (order v a) = _ ∧ _ ≤ order v a
      have hka : k ≤ a := by
        by_contra hlt
        exact hj ⟨a, by simpa using hlt, rfl⟩
      rcases hka.eq_or_lt with rfl | hlt
      · exact .inr ⟨rfl, le_rfl⟩
      · rcases order_ahead v hlt with h | ⟨h, l⟩
        · exact .inl h
        · exact .inr ⟨h.symm, l.le⟩
  refine ⟨hk, fun j => (key j).elim le_of_lt fun h => h.1.le, fun j hj => ?_⟩
  rcases key j with h | h
  · exact absurd hj h.ne
  · exact h.2

include hz in
/-- After `k` rounds the greatest element is the `k`-th greatest of the row. -/
theorem rowMax_masked (k : Fin n) : rowMax (masked z v k) = v (order v k) := by
  obtain ⟨h, h1, _⟩ := masked_top z v hz k
  rw [rowMax_eq _ (order v k) (fun j => h.symm ▸ h1 j), h]

include hn hs hz in
/-- After `k` rounds the word is the `k`-th greatest position. -/
theorem rowArg_masked (k : Fin n) : rowArg s (masked z v k) = BitVec.ofNat 32 (order v k) := by
  obtain ⟨h, h1, h2⟩ := masked_top z v hz k
  exact rowArg_eq hn s hs _ (order v k) (fun j => h.symm ▸ h1 j) fun j e => h2 j (e.trans h)

/-- Before any round nothing is struck out. -/
theorem masked_zero : masked z v 0 = v := by
  funext i; exact if_neg fun ⟨_, h, _⟩ => absurd h (Nat.not_lt_zero _)

include hn hs hz in
/-- One more round. -/
theorem rowStep_masked (k : Fin n) : rowStep s z (masked z v k) = masked z v (k + 1) := by
  funext i
  unfold rowStep
  rw [rowArg_masked hn s hs z v hz k]
  simp only [ofNat_inj_small hn]
  unfold masked
  by_cases h : i = order v k
  · rw [if_pos h, if_pos ⟨k, Nat.lt_succ_self _, h⟩]
  · rw [if_neg h]
    refine if_congr ⟨fun ⟨j, hj, e⟩ => ⟨j, Nat.lt_succ_of_lt hj, e⟩, fun ⟨j, hj, e⟩ => ⟨j, ?_, e⟩⟩ rfl rfl
    refine lt_of_le_of_ne (Nat.le_of_lt_succ hj) fun e' => h ?_
    rw [e, Fin.ext e']

include hn hs hz in
/-- The row after `k` rounds is the mask. -/
theorem iterate_rowStep (k : ℕ) (hk : k ≤ n) : (rowStep s z)^[k] v = masked z v k := by
  induction k with
  | zero => exact (masked_zero z v).symm
  | succ k ih =>
    rw [Function.iterate_succ_apply', ih (by omega)]
    exact rowStep_masked hn s hs z v hz ⟨k, hk⟩

include hn hs hz in
/-- Round `k` takes the `k`-th greatest element, -/
theorem rowMax_iterate (k : Fin n) : rowMax ((rowStep s z)^[k] v) = v (order v k) := by
  rw [iterate_rowStep hn s hs z v hz k k.isLt.le, rowMax_masked z v hz]

include hn hs hz in
/-- and its position. -/
theorem rowArg_iterate (k : Fin n) : rowArg s ((rowStep s z)^[k] v) = BitVec.ofNat 32 (order v k) := by
  rw [iterate_rowStep hn s hs z v hz k k.isLt.le, rowArg_masked hn s hs z v hz]

end Rounds

end Squad
-- ==== Proof.Soft.lean ====
/-
  Softmax over a row of extended reals, and how it orders the row's positions.
-/
module

public import proofs.«01_k».proof.Proof.TopRow
public import Idealize.ShloMosaic.Lib.IdealHost

@[expose] public section

noncomputable section

namespace Squad

open Idealize.ShloMosaic

/-- The exponential of each element less the row's greatest. -/
def expo {n : ℕ} (l : Fin n → EReal) (s : Fin n) : EReal := Ideal.exp (l s - rowMax l)

/-- Softmax. -/
def soft {n : ℕ} (l : Fin n → EReal) (s : Fin n) : EReal := Ideal.div (expo l s) (∑ t, expo l t)

/-- An exponential is not negative. -/
theorem exp_nonneg (x : EReal) : 0 ≤ Ideal.exp x := by
  induction x with
  | bot => simp
  | top => simp
  | coe r => rw [Ideal.exp_coe]; exact_mod_cast (Real.exp_pos r).le

/-- A softmax numerator is not negative. -/
theorem expo_nonneg {n : ℕ} (l : Fin n → EReal) (s : Fin n) : 0 ≤ expo l s := exp_nonneg _

/-- A finite sum of real numbers is a real number. -/
theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self _ _)
    obtain ⟨y, hy⟩ := ih fun i hi => h i (Finset.mem_insert_of_mem hi)
    exact ⟨x + y, by rw [Finset.sum_insert ha, hx, hy, EReal.coe_add]⟩

/-- Where the greatest element is real, every exponential is a real number. -/
theorem expo_real {n : ℕ} (l : Fin n → EReal) (m : ℝ) (hm : rowMax l = m) (s : Fin n) : ∃ r : ℝ, expo l s = r := by
  have h := le_rowMax l s
  unfold expo
  rw [hm] at h ⊢
  induction hx : l s with
  | bot => exact ⟨0, by simp⟩
  | top => rw [hx] at h; exact absurd h (by simp)
  | coe r => exact ⟨Real.exp (r - m), by rw [← EReal.coe_sub, Ideal.exp_coe]⟩

/-- There the sum of the exponentials is a positive real number. -/
theorem sum_expo_pos {n : ℕ} [NeZero n] (l : Fin n → EReal) (m : ℝ) (hm : rowMax l = m) :
    ∃ d : ℝ, 0 < d ∧ ∑ t, expo l t = d := by
  obtain ⟨d, hd⟩ := sum_real Finset.univ (expo l) fun i _ => expo_real l m hm i
  obtain ⟨i, hi⟩ := exists_rowMax l
  refine ⟨d, ?_, hd⟩
  have h1 : expo l i = 1 := by
    unfold expo
    rw [← hi, hm, ← EReal.coe_sub, Ideal.exp_coe]; simp
  have h2 : (1 : EReal) ≤ ∑ t, expo l t := by
    rw [← h1]; exact Finset.single_le_sum (f := expo l) (fun t _ => expo_nonneg l t) (Finset.mem_univ i)
  rw [hd] at h2
  exact_mod_cast lt_of_lt_of_le zero_lt_one h2

/-- Division by a positive real keeps the order of reals. -/
theorem div_pos_lt (x y d : ℝ) (hd : 0 < d) : Ideal.div (x : EReal) d < Ideal.div (y : EReal) d ↔ (x : EReal) < y := by
  have h0 : (d : EReal) ≠ 0 := by exact_mod_cast hd.ne'
  unfold Ideal.div
  rw [if_neg h0, if_neg h0, ← EReal.coe_inv, ← EReal.coe_mul, ← EReal.coe_mul, EReal.coe_lt_coe_iff, EReal.coe_lt_coe_iff]
  exact mul_lt_mul_iff_left₀ (inv_pos.2 hd)

/-- Where the greatest element is infinite, every exponential is zero. -/
theorem expo_zero {n : ℕ} (l : Fin n → EReal) (h : rowMax l = ⊤ ∨ rowMax l = ⊥) (s : Fin n) : expo l s = 0 := by
  unfold expo
  rcases h with h | h
  · rw [h]; simp
  · have := le_rowMax l s
    rw [h, le_bot_iff] at this
    rw [h, this]; simp

/-- Softmax orders the positions as the exponentials do, whatever the row. -/
theorem order_soft_expo {n : ℕ} [NeZero n] (l : Fin n → EReal) : order (soft l) = order (expo l) := by
  refine order_congr _ _ fun i j => ?_
  induction hm : rowMax l with
  | bot =>
    unfold soft
    rw [expo_zero l (.inr hm) i, expo_zero l (.inr hm) j]; simp
  | top =>
    unfold soft
    rw [expo_zero l (.inl hm) i, expo_zero l (.inl hm) j]; simp
  | coe m =>
    obtain ⟨x, hx⟩ := expo_real l m hm i
    obtain ⟨y, hy⟩ := expo_real l m hm j
    obtain ⟨d, hd, e⟩ := sum_expo_pos l m hm
    unfold soft
    rw [hx, hy, e]
    exact div_pos_lt x y d hd

/-- On a row of real numbers it orders them as the row itself. -/
theorem order_soft {n : ℕ} [NeZero n] (l : Fin n → EReal) (h : ∀ s, ∃ r : ℝ, l s = r) : order (soft l) = order l := by
  rw [order_soft_expo]
  refine order_congr _ _ fun i j => ?_
  obtain ⟨k, hk⟩ := exists_rowMax l
  obtain ⟨m, hm⟩ := h k
  obtain ⟨x, hx⟩ := h i
  obtain ⟨y, hy⟩ := h j
  unfold expo
  rw [hk, hm, hx, hy, ← EReal.coe_sub, ← EReal.coe_sub, Ideal.exp_coe, Ideal.exp_coe, EReal.coe_lt_coe_iff, EReal.coe_lt_coe_iff,
    Real.exp_lt_exp, sub_lt_sub_iff_right]

/-- The pattern of minus infinity is the least extended real. -/
theorem ofBits_neg_inf : Ideal.ofBits .f32 0xFF800000#32 = ⊥ := by
  simp [Ideal.ofBits, Ideal.ieee]

/-- The mask of the second top-k lies below every exponential. -/
theorem neg_one_lt_expo {n : ℕ} (l : Fin n → EReal) (s : Fin n) : Ideal.ofBits .f32 0xBF800000#32 < expo l s := by
  refine lt_of_lt_of_le ?_ (expo_nonneg l s)
  rw [show Ideal.ofBits .f32 0xBF800000#32 = ((-1 : ℝ) : EReal) by
    simp [Ideal.ofBits, Ideal.ieee, -EReal.coe_mul, -EReal.coe_neg]; norm_num]
  exact_mod_cast neg_one_lt_zero

end Squad
-- ==== Proof.Heads.lean ====
/-
  The mathematics of the three heads, program-free, over one row of the batch: `x s h` is hidden element `h` of token
  `s`, `p s` the mask. Start logits and their order; the end logits of a start token (a layernorm of a tanh layer);
  the class logit.
-/
module

public import proofs.«01_k».proof.Proof.Soft

@[expose] public section

noncomputable section

namespace Squad

open Idealize.ShloMosaic

/-- −1e30 -/
def big : EReal := Ideal.ofBits .f32 0xF149F2CA#32
/-- 768 -/
def width : EReal := Ideal.ofBits .f32 0x44400000#32
/-- 1e−12 -/
def tiny : EReal := Ideal.ofBits .f32 0x2B8CBCCC#32

/-- The pattern of 1e30 is minus `big`. -/
theorem big_eq : Ideal.ofBits .f32 0x7149F2CA#32 = -big := by
  unfold big
  simp [Ideal.ofBits, Ideal.ieee, -EReal.coe_mul, -EReal.coe_neg]
  norm_num [← EReal.coe_neg]

/-- `big` is a real number. -/
theorem big_real : ∃ r : ℝ, big = r := by
  unfold big
  simp [Ideal.ofBits, Ideal.ieee, -EReal.coe_mul, -EReal.coe_neg]

/-- `width` is the real number 768. -/
theorem width_eq : width = ((768 : ℝ) : EReal) := by
  unfold width
  simp [Ideal.ofBits, Ideal.ieee, -EReal.coe_mul]; norm_num

/-- `tiny` is a positive real number. -/
theorem tiny_pos : ∃ r : ℝ, 0 < r ∧ tiny = r := by
  unfold tiny
  simp [Ideal.ofBits, Ideal.ieee, -EReal.coe_mul]

/-- A logit under its mask `q`. -/
def under (a q : EReal) : EReal := a * (1 - q) + big * q

/-- The same, the mask subtracted. -/
theorem under_sub (a q : EReal) : a * (1 - q) - Ideal.ofBits .f32 0x7149F2CA#32 * q = under a q := by
  unfold under
  rw [big_eq, EReal.neg_mul, sub_eq_add_neg, neg_neg]

/-- The start logit of each token. -/
def startLogit {n d : ℕ} (x : Fin n → Fin d → EReal) (p : Fin n → EReal) (w : Fin d → EReal) (b : EReal) (s : Fin n) : EReal :=
  under ((∑ k, x s k * w k) + b) (p s)

/-- A product of reals is real. -/
theorem mul_real {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

/-- A sum of reals is real. -/
theorem add_real {a b : EReal} (ha : ∃ r : ℝ, a = r) (hb : ∃ r : ℝ, b = r) : ∃ r : ℝ, a + b = r := by
  obtain ⟨r, rfl⟩ := ha; obtain ⟨s, rfl⟩ := hb; exact ⟨r + s, (EReal.coe_add r s).symm⟩

/-- A difference of reals is real. -/
theorem sub_real {a b : EReal} (ha : ∃ r : ℝ, a = r) (hb : ∃ r : ℝ, b = r) : ∃ r : ℝ, a - b = r := by
  obtain ⟨r, rfl⟩ := ha; obtain ⟨s, rfl⟩ := hb; exact ⟨r - s, (EReal.coe_sub r s).symm⟩

/-- Of real arguments it is a real number. -/
theorem startLogit_real {n d : ℕ} (x : Fin n → Fin d → EReal) (p : Fin n → EReal) (w : Fin d → EReal) (b : EReal)
    (hx : ∀ s k, ∃ r : ℝ, x s k = r) (hp : ∀ s, ∃ r : ℝ, p s = r) (hw : ∀ k, ∃ r : ℝ, w k = r) (hb : ∃ r : ℝ, b = r) (s : Fin n) :
    ∃ r : ℝ, startLogit x p w b s = r :=
  add_real (mul_real (add_real (sum_real _ _ fun k _ => mul_real (hx s k) (hw k)) hb) (sub_real ⟨1, rfl⟩ (hp s)))
    (mul_real big_real (hp s))

/-! ## Layernorm -/

/-- The mean of a row of 768. -/
def mean {d : ℕ} (h : Fin d → EReal) : EReal := Ideal.div (∑ j, h j) width

/-- The variance of a row of 768. -/
def variance {d : ℕ} (h : Fin d → EReal) : EReal := Ideal.div (∑ j, (h j - mean h) * (h j - mean h)) width

/-- Layernorm of a row with gain `g` and offset `b`, by the reciprocal of the root. -/
def norm {d : ℕ} (h g b : Fin d → EReal) (j : Fin d) : EReal :=
  (h j - mean h) * Ideal.rsqrt (variance h + tiny) * g j + b j

/-- The hyperbolic tangent of any extended real is real. -/
theorem tanh_real (a : EReal) : ∃ r : ℝ, Ideal.tanh a = r := by
  induction a with
  | bot => exact ⟨-1, by simp⟩
  | top => exact ⟨1, by simp⟩
  | coe r => exact ⟨Real.tanh r, by simp⟩

/-- A real divided by `width` is the real quotient by 768. -/
theorem div_width (r : ℝ) : Ideal.div (r : EReal) width = ((r * (768 : ℝ)⁻¹ : ℝ) : EReal) := by
  have h : ((768 : ℝ) : EReal) ≠ 0 := by exact_mod_cast (by norm_num : (768 : ℝ) ≠ 0)
  unfold Ideal.div
  rw [width_eq, if_neg h, ← EReal.coe_inv, ← EReal.coe_mul]

/-- Of a row of real numbers, dividing by the root is multiplying by its reciprocal. -/
theorem norm_div {d : ℕ} (h g b : Fin d → EReal) (hh : ∀ j, ∃ r : ℝ, h j = r) (j : Fin d) :
    Ideal.div (h j - mean h) (Ideal.sqrt (variance h + tiny)) * g j + b j = norm h g b j := by
  have hmean : ∃ r : ℝ, mean h = r := by
    obtain ⟨r, hr⟩ := sum_real Finset.univ h fun i _ => hh i
    exact ⟨_, by unfold mean; rw [hr, div_width]⟩
  obtain ⟨v, hv0, hv⟩ : ∃ v : ℝ, 0 ≤ v ∧ variance h = v := by
    have hr : ∀ i, ∃ r : ℝ, 0 ≤ r ∧ (h i - mean h) * (h i - mean h) = r := fun i => by
      obtain ⟨a, ha⟩ := sub_real (hh i) hmean
      exact ⟨a * a, mul_self_nonneg a, by rw [ha, EReal.coe_mul]⟩
    obtain ⟨r, e⟩ := sum_real Finset.univ (fun i => (h i - mean h) * (h i - mean h)) fun i _ => (hr i).imp fun _ q => q.2
    have h0 : (0 : EReal) ≤ ∑ i, (h i - mean h) * (h i - mean h) := Finset.sum_nonneg fun i _ => by
      obtain ⟨a, ha, e⟩ := hr i
      rw [e]; exact_mod_cast ha
    rw [e] at h0
    have h0 : 0 ≤ r := by exact_mod_cast h0
    exact ⟨r * (768 : ℝ)⁻¹, by positivity, by unfold variance; rw [e, div_width]⟩
  obtain ⟨t, ht, e⟩ := tiny_pos
  have hp : 0 < v + t := by linarith
  have hs : ((Real.sqrt (v + t) : ℝ) : EReal) ≠ 0 := by exact_mod_cast (Real.sqrt_pos.2 hp).ne'
  unfold norm
  rw [hv, e, ← EReal.coe_add, Ideal.sqrt_coe, Ideal.rsqrt_coe, if_neg hp.not_gt, if_neg hp.not_gt, if_neg hp.ne']
  unfold Ideal.div
  rw [if_neg hs, EReal.coe_inv]

/-! ## The end head and the class head -/

/-- The tanh layer over a token `u` and a second row `v`, each through its half of the weights. -/
def layer {d e : ℕ} (u v : Fin d → EReal) (wu wv : Fin d → Fin e → EReal) (c : Fin e → EReal) (j : Fin e) : EReal :=
  Ideal.tanh ((∑ i, u i * wu i j) + (∑ i, v i * wv i j) + c j)

/-- The end logit of token `s` beside a start row `v`. -/
def endLogit {n d : ℕ} (x : Fin n → Fin d → EReal) (p : Fin n → EReal) (wu wv : Fin d → Fin d → EReal) (c g o w : Fin d → EReal)
    (b : EReal) (v : Fin d → EReal) (s : Fin n) : EReal :=
  under ((∑ j, norm (layer (x s) v wu wv c) g o j * w j) + b) (p s)

/-- The class logit: the tokens weighted by `a`, beside the class row `v`. -/
def classLogit {n d : ℕ} (x : Fin n → Fin d → EReal) (a : Fin n → EReal) (v : Fin d → EReal) (wu wv : Fin d → Fin d → EReal)
    (c w : Fin d → EReal) : EReal :=
  ∑ j, layer (fun i => ∑ s, x s i * a s) v wu wv c j * w j

end Squad
-- ==== Proof.KStart.lean ====
/-
  The start head of the kernel's body, its values read at coordinates: the masked start logits, their softmax, and the
  five rounds of the first top-k.
-/
module

public import proofs.«01_k».proof.Proof.Heads
public import proofs.«01_k».proof.Proof.Gen.KernelIdeal.Skeleton

@[expose] public section

set_option maxRecDepth 16384

noncomputable section

namespace Cert.KernelIdeal.Math

open Idealize.ShloMosaic Idealize.ShloMosaic.TcCoe Idealize.SL.Sem
open Cert.KernelIdeal Cert.KernelIdeal.Gen Squad

/-- A choice on the equality of two words. -/
theorem select_eq {α : Type} (a b : BitVec 32) (x y : α) :
    Scalar.select (IntOp.cmpi .eq a b) x y = if a = b then x else y := by
  unfold Scalar.select IntOp.cmpi
  by_cases h : a = b
  · simp [h]
  · have e : (a == b) = false := beq_eq_false_iff_ne.2 h
    simp [h, e]

/-- The positions of a row of tokens. -/
abbrev places : IVec S1x2048 32 := iota .tc S1x2048 32 [1] iota_S1x2048_d1_w32

/-- A [1, 2048] vector as a row. -/
abbrev row (w : FVec Ideal S1x2048 .f32) : Fin 2048 → EReal := fun i => w (ix2 0 i)

/-- The least position is looked for with 2047 as "nowhere", and what was taken is put at −∞. -/
abbrev next (v : Fin 2048 → EReal) : Fin 2048 → EReal := rowStep 2047#32 ⊥ v

section Logits

variable (v0 : FVec Ideal S1x2048x768 .f32) (v2 : FVec Ideal S1x2048x1 .f32) (v4 : FVec Ideal S768x1 .f32) (v6 : FVec Ideal S1x1 .f32)

/-- The start logits of the block. -/
def logits : Fin 2048 → EReal :=
  startLogit (fun s k => v0 (ix3 0 s k)) (fun s => v2 (ix3 0 s 0)) (fun k => v4 (ix2 k 0)) (v6 (ix2 0 0))

/-- The masked start logits. -/
theorem pay5_at (s : Fin 2048) (a : Fin 1) : k0_pay5 (F := Ideal) v0 v2 v4 v6 (ix2 s a) = logits v0 v2 v4 v6 s := by
  obtain rfl : a = 0 := Subsingleton.elim _ _
  pointwise [k0_pay5, k0_pay3, k0_pay4]
  rfl

/-- Their greatest. -/
theorem pay6_at (a b : Fin 1) : k0_pay6 (F := Ideal) v0 v2 v4 v6 (ix2 a b) = rowMax (logits v0 v2 v4 v6) := by
  pointwise [k0_pay6, pay5_at]
  rw [ofBits_neg_inf]
  rfl

/-- The softmax numerators. -/
theorem pay7_at (s : Fin 2048) (a : Fin 1) : k0_pay7 (F := Ideal) v0 v2 v4 v6 (ix2 s a) = expo (logits v0 v2 v4 v6) s := by
  pointwise [k0_pay7, pay5_at, pay6_at]
  rfl

/-- The softmax denominator. -/
theorem pay8_at (a b : Fin 1) : k0_pay8 (F := Ideal) v0 v2 v4 v6 (ix2 a b) = ∑ s, expo (logits v0 v2 v4 v6) s := by
  pointwise [k0_pay8, pay7_at]

/-- The start logits laid out as a row. -/
theorem row_pay9 : row (k0_pay9 (F := Ideal) v0 v2 v4 v6) = logits v0 v2 v4 v6 := by
  funext i
  pointwise [k0_pay9, pay5_at]

/-- The first round's value. -/
theorem pay10_at (a b : Fin 1) : k0_pay10 (F := Ideal) v0 v2 v4 v6 (ix2 a b) = rowMax (logits v0 v2 v4 v6) := by
  rw [← row_pay9]
  pointwise [k0_pay10]
  rw [ofBits_neg_inf]
  rfl

/-- The first round's position. -/
theorem pay11_at (a b : Fin 1) : k0_pay11 (F := Ideal) v0 v2 v4 v6 (ix2 a b) = rowArg 2047#32 (logits v0 v2 v4 v6) := by
  pointwise [k0_pay11, pay10_at]
  simp only [← row_pay9]
  rfl

/-- The row after the first round. -/
theorem row_pay12 : row (k0_pay12 (F := Ideal) v0 v2 v4 v6) = next (logits v0 v2 v4 v6) := by
  funext i
  pointwise [k0_pay12, pay11_at]
  rw [ofBits_neg_inf, select_eq]
  simp only [← row_pay9]
  rfl

end Logits

section Rounds

variable (w : FVec Ideal S1x2048 .f32)

/-- The second round's value. -/
theorem pay14_at (a b : Fin 1) : k0_pay14 (F := Ideal) w (ix2 a b) = rowMax (row w) := by
  pointwise [k0_pay14]
  rw [ofBits_neg_inf]
  rfl

/-- The second round's position. -/
theorem pay15_at (a b : Fin 1) : k0_pay15 (F := Ideal) places w (ix2 a b) = rowArg 2047#32 (row w) := by
  pointwise [k0_pay15, pay14_at]
  rfl

/-- The row after the second round. -/
theorem row_pay16 : row (k0_pay16 (F := Ideal) places w) = next (row w) := by
  funext i
  pointwise [k0_pay16, pay15_at]
  rw [ofBits_neg_inf, select_eq]
  rfl

/-- The third round's value. -/
theorem pay18_at (a b : Fin 1) : k0_pay18 (F := Ideal) places w (ix2 a b) = rowMax (next (row w)) := by
  rw [← row_pay16]
  pointwise [k0_pay18]
  rw [ofBits_neg_inf]
  rfl

/-- The third round's position. -/
theorem pay19_at (a b : Fin 1) : k0_pay19 (F := Ideal) places w (ix2 a b) = rowArg 2047#32 (next (row w)) := by
  pointwise [k0_pay19, pay18_at]
  simp only [← row_pay16 w]
  rfl

/-- The row after the third round. -/
theorem row_pay20 : row (k0_pay20 (F := Ideal) places w) = next (next (row w)) := by
  funext i
  pointwise [k0_pay20, pay19_at]
  rw [ofBits_neg_inf, select_eq]
  simp only [← row_pay16 w]
  rfl

/-- The fourth round's value. -/
theorem pay22_at (a b : Fin 1) : k0_pay22 (F := Ideal) places w (ix2 a b) = rowMax (next (next (row w))) := by
  rw [← row_pay20]
  pointwise [k0_pay22]
  rw [ofBits_neg_inf]
  rfl

/-- The fourth round's position. -/
theorem pay23_at (a : Fin 1) : k0_pay23 (F := Ideal) places w (ix1 a) = rowArg 2047#32 (next (next (row w))) := by
  pointwise [k0_pay23, pay22_at]
  simp only [← row_pay20 w]
  rfl

/-- The fourth round's position, as a matrix. -/
theorem pay24_at (a b : Fin 1) : k0_pay24 (k0_pay23 (F := Ideal) places w) (ix2 a b) = rowArg 2047#32 (next (next (row w))) := by
  pointwise [k0_pay24, pay23_at]

/-- The row after the fourth round. -/
theorem row_pay25 : row (k0_pay25 (F := Ideal) places (k0_pay20 places w) (k0_pay23 places w)) = next (next (next (row w))) := by
  funext i
  pointwise [k0_pay25, pay24_at]
  rw [ofBits_neg_inf, select_eq]
  simp only [← row_pay20 w]
  rfl

/-- The fifth round's value. -/
theorem pay26_at (a b : Fin 1) :
    k0_pay26 (F := Ideal) places (k0_pay20 places w) (k0_pay23 places w) (ix2 a b) = rowMax (next (next (next (row w)))) := by
  rw [← row_pay25]
  pointwise [k0_pay26]
  rw [ofBits_neg_inf]
  rfl

/-- The fifth round's position. -/
theorem pay27_at (a b : Fin 1) :
    k0_pay27 (F := Ideal) places (k0_pay20 places w) (k0_pay23 places w) (ix2 a b) = rowArg 2047#32 (next (next (next (row w)))) := by
  pointwise [k0_pay27, pay26_at]
  simp only [← row_pay25 w]
  rfl

end Rounds

end Cert.KernelIdeal.Math
-- ==== Proof.Targets.lean ====
/-
  The three heads over the argument arrays of one batch: what both programs' results are made of.
-/
module

public import proofs.«01_k».proof.Proof.Heads
public import proofs.«01_k».proof.Proof.Gen.KernelIdeal.Skeleton

@[expose] public section

set_option maxRecDepth 16384

noncomputable section

namespace Squad

open Idealize.ShloMosaic Idealize.ShloMosaic.TcCoe
open Cert.KernelIdeal

/-- The position of the `k`-th greatest of 2048 elements, for the five that are taken. -/
abbrev place (v : Fin 2048 → EReal) (k : Fin 5) : Fin 2048 := order v (Fin.castLE (by decide) k)

/-- A row of the upper half of a weight over two vectors side by side. -/
abbrev upper (i : Fin 768) : Fin 1536 := ⟨i, by omega⟩
/-- A row of its lower half. -/
abbrev lower (i : Fin 768) : Fin 1536 := ⟨768 + i, by omega⟩

/-- The token a class word names. -/
abbrev classToken (X1 : IVec S2 32) (b : Fin 2) : Fin 2048 := Fin.ofNat 2048 (X1 (ix1 b)).toNat

/-- The start logits of batch `b`. -/
def startRow (X0 : FVec Ideal S2x2048x768 .f32) (X2 : FVec Ideal S2x2048 .f32) (X3 : FVec Ideal S768x1 .f32) (X4 : FVec Ideal S1 .f32)
    (b : Fin 2) : Fin 2048 → EReal :=
  startLogit (fun s k => X0 (ix3 b s k)) (fun s => X2 (ix2 b s)) (fun k => X3 (ix2 k 0)) (X4 (ix1 0))

/-- The end logits of batch `b` for the start token `p`. -/
def endRow (X0 : FVec Ideal S2x2048x768 .f32) (X2 : FVec Ideal S2x2048 .f32) (X5 : FVec Ideal S1536x768 .f32)
    (X6 X7 X8 : FVec Ideal S768 .f32) (X9 : FVec Ideal S768x1 .f32) (X10 : FVec Ideal S1 .f32) (b : Fin 2) (p : Fin 2048) :
    Fin 2048 → EReal :=
  endLogit (fun s i => X0 (ix3 b s i)) (fun s => X2 (ix2 b s)) (fun i j => X5 (ix2 (upper i) j)) (fun i j => X5 (ix2 (lower i) j))
    (fun j => X6 (ix1 j)) (fun j => X7 (ix1 j)) (fun j => X8 (ix1 j)) (fun j => X9 (ix2 j 0)) (X10 (ix1 0)) (fun i => X0 (ix3 b p i))

/-- The class logit of batch `b`, under attention weights `a`. -/
def classVal (X0 : FVec Ideal S2x2048x768 .f32) (X1 : IVec S2 32) (X11 : FVec Ideal S1536x768 .f32) (X12 : FVec Ideal S768 .f32)
    (X13 : FVec Ideal S768x1 .f32) (b : Fin 2) (a : Fin 2048 → EReal) : EReal :=
  classLogit (fun s i => X0 (ix3 b s i)) a (fun i => X0 (ix3 b (classToken X1 b) i)) (fun i j => X11 (ix2 (upper i) j))
    (fun i j => X11 (ix2 (lower i) j)) (fun j => X12 (ix1 j)) (fun j => X13 (ix2 j 0))

end Squad
-- ==== Proof.KBegin.lean ====
/-
  What the start head of the kernel's body stores: the softmax at the five greatest positions, and those positions.
-/
module

public import proofs.«01_k».proof.Proof.KStart
public import proofs.«01_k».proof.Proof.Targets

@[expose] public section

set_option maxRecDepth 16384

noncomputable section

namespace Cert.KernelIdeal.Math

open Idealize.ShloMosaic Idealize.ShloMosaic.TcCoe Idealize.SL.Sem
open Cert.KernelIdeal Cert.KernelIdeal.Gen Squad

section Real

variable (v : Fin 2048 → EReal) (hv : ∀ i, ∃ r : ℝ, v i = r)

include hv in
/-- The greatest value after `k` rounds is the value at place `k`. -/
theorem rowMax_next (k : Fin 5) : rowMax (next^[k] v) = v (place v k) :=
  rowMax_iterate (le_refl 2048) 2047#32 (by decide) ⊥ v (fun i => by obtain ⟨r, h⟩ := hv i; rw [h]; exact EReal.bot_lt_coe r)
    (Fin.castLE (by decide) k)

include hv in
/-- The position found after `k` rounds is place `k`. -/
theorem rowArg_next (k : Fin 5) : rowArg 2047#32 (next^[k] v) = BitVec.ofNat 32 (place v k) :=
  rowArg_iterate (le_refl 2048) 2047#32 (by decide) ⊥ v (fun i => by obtain ⟨r, h⟩ := hv i; rw [h]; exact EReal.bot_lt_coe r)
    (Fin.castLE (by decide) k)

end Real

section Stores

variable (v0 : FVec Ideal S1x2048x768 .f32) (v2 : FVec Ideal S1x2048x1 .f32) (v4 : FVec Ideal S768x1 .f32) (v6 : FVec Ideal S1x1 .f32)
  (hl : ∀ i, ∃ r : ℝ, logits v0 v2 v4 v6 i = r)

/-- The row after the first round, as the body holds it. -/
abbrev first : FVec Ideal S1x2048 .f32 := k0_pay12 (F := Ideal) v0 v2 v4 v6

include hl in
/-- The five greatest probabilities. -/
theorem pay28_at (a b : Fin 1) (k : Fin 5) :
    k0_pay28 (F := Ideal) (k0_pay6 v0 v2 v4 v6) (k0_pay8 v0 v2 v4 v6) places (k0_pay10 v0 v2 v4 v6) (k0_pay14 (first v0 v2 v4 v6))
        (k0_pay18 places (first v0 v2 v4 v6)) (k0_pay20 places (first v0 v2 v4 v6)) (k0_pay22 places (first v0 v2 v4 v6))
        (k0_pay23 places (first v0 v2 v4 v6)) (ix3 a b k)
      = soft (logits v0 v2 v4 v6) (place (logits v0 v2 v4 v6) k) := by
  have h := rowMax_next _ hl k
  unfold soft
  rw [show expo (logits v0 v2 v4 v6) (place (logits v0 v2 v4 v6) k)
    = Ideal.exp (rowMax (next^[k] (logits v0 v2 v4 v6)) - rowMax (logits v0 v2 v4 v6)) by rw [h]; rfl]
  clear h
  fin_cases k <;>
  · pointwise [k0_pay28, pay6_at, pay8_at, pay10_at, pay14_at, pay18_at, pay22_at, pay26_at, row_pay12]
    simp only [Nat.iterate]

include hl in
/-- Their positions. -/
theorem pay29_at (a b : Fin 1) (k : Fin 5) :
    k0_pay29 places (k0_pay11 (F := Ideal) v0 v2 v4 v6) (k0_pay15 (F := Ideal) places (first v0 v2 v4 v6)) (k0_pay19 (F := Ideal) places (first v0 v2 v4 v6))
        (k0_pay20 (F := Ideal) places (first v0 v2 v4 v6)) (k0_pay23 (F := Ideal) places (first v0 v2 v4 v6)) (ix3 a b k)
      = BitVec.ofNat 32 (place (logits v0 v2 v4 v6) k) := by
  rw [← rowArg_next _ hl k]
  fin_cases k <;>
  · pointwise [k0_pay29, pay11_at, pay15_at, pay19_at, pay24_at, pay27_at, row_pay12]
    simp only [Nat.iterate]

end Stores

end Cert.KernelIdeal.Math
-- ==== Proof.KEnd.lean ====
/-
  The end head of the kernel's body, its values read at coordinates: a column of end logits for each start token, and the
  exponentials of the masked logits.
-/
module

public import proofs.«01_k».proof.Proof.KStart

@[expose] public section

set_option maxRecDepth 16384

noncomputable section

namespace Cert.KernelIdeal.Math

open Idealize.ShloMosaic Idealize.ShloMosaic.TcCoe Idealize.SL.Sem
open Cert.KernelIdeal Cert.KernelIdeal.Gen Squad

section Columns

variable (v115 : FVec Ideal S2048x768 .f32) (v122 : FVec Ideal S5x768 .f32) (v124 v126 : FVec Ideal S1x768 .f32)
  (w : FVec Ideal S768x1 .f32)

/-- The hidden layer at token `s` for start token `k`. -/
abbrev hidden (k : Fin 5) (s : Fin 2048) (j : Fin 768) : EReal := Ideal.tanh (v115 (ix2 s j) + v122 (ix2 k j))

/-- The end score at token `s` for start token `k`, before the bias and the mask. -/
def column (k : Fin 5) (s : Fin 2048) : EReal :=
  ∑ j, norm (hidden v115 v122 k s) (fun j => v124 (ix2 0 j)) (fun j => v126 (ix2 0 j)) j * w (ix2 j 0)

/-- The scores for the first start token. -/
theorem pay35_at (v112 : FVec Ideal S5x768 .f32) (v116 : FVec Ideal S768x768 .f32) (v119 v123 v125 : FVec Ideal S1x768 .f32)
    (s : Fin 2048) (a : Fin 1) :
    k0_pay35 (F := Ideal) v112 v115 v116 v119 v123 v125 w (ix2 s a)
      = column v115 (k0_pay32 v112 v116 v119) (k0_pay33 v123) (k0_pay34 v125) w 0 s := by
  obtain rfl : a = 0 := Subsingleton.elim _ _
  pointwise [k0_pay35]
  rfl

/-- The scores for the second start token. -/
theorem pay39_at (v112 : FVec Ideal S5x768 .f32) (v116 : FVec Ideal S768x768 .f32) (v119 : FVec Ideal S1x768 .f32)
    (s : Fin 2048) (a : Fin 1) :
    k0_pay39 (F := Ideal) v124 v126 (k0_pay36 v112 v115 v116 v119) (k0_pay37 v112 v115 v116 v119) k0_pay38 w (ix2 s a)
      = column v115 (k0_pay32 v112 v116 v119) v124 v126 w 1 s := by
  obtain rfl : a = 0 := Subsingleton.elim _ _
  pointwise [k0_pay39, k0_pay36, k0_pay37, k0_pay38]
  rfl

/-- The scores for the third start token. -/
theorem pay40_at (s : Fin 2048) (a : Fin 1) :
    k0_pay40 (F := Ideal) v115 v122 v124 v126 w (ix2 s a) = column v115 v122 v124 v126 w 2 s := by
  obtain rfl : a = 0 := Subsingleton.elim _ _
  pointwise [k0_pay40]
  rfl

/-- The scores for the fourth start token. -/
theorem pay42_at (s : Fin 2048) (a : Fin 1) :
    k0_pay42 (F := Ideal) v115 v124 v126 (k0_pay41 v122) w (ix2 s a) = column v115 v122 v124 v126 w 3 s := by
  obtain rfl : a = 0 := Subsingleton.elim _ _
  pointwise [k0_pay42, k0_pay41]
  rfl

/-- The last column's normalised layer, before its offset. -/
theorem pay43_at (s : Fin 2048) (j : Fin 768) :
    k0_pay43 (F := Ideal) v115 v122 v124 (ix2 s j) + v126 (ix2 0 j)
      = norm (hidden v115 v122 4 s) (fun j => v124 (ix2 0 j)) (fun j => v126 (ix2 0 j)) j := by
  pointwise [k0_pay43]
  rfl

end Columns

section Masked

variable (v3 : FVec Ideal S2048x1 .f32) (v126 : FVec Ideal S1x768 .f32) (v152 v178 v204 v230 : FVec Ideal S2048x1 .f32)
  (v252 : FVec Ideal S2048x768 .f32) (v255 : FVec Ideal S768x1 .f32) (v258 : FVec Ideal S1x1 .f32)

/-- The five columns side by side. -/
def columns (k : Fin 5) (s : Fin 2048) : EReal :=
  ![v152 (ix2 s 0), v178 (ix2 s 0), v204 (ix2 s 0), v230 (ix2 s 0), ∑ j, (v252 (ix2 s j) + v126 (ix2 0 j)) * v255 (ix2 j 0)] k

/-- The masked end logits of start token `k`. -/
def ends (k : Fin 5) (s : Fin 2048) : EReal :=
  under (columns v126 v152 v178 v204 v230 v252 v255 k s + v258 (ix2 0 0)) (v3 (ix2 s 0))

/-- The exponentials of the masked end logits, one row for each start token. -/
theorem pay44_at (k : Fin 5) (s : Fin 2048) :
    k0_pay44 (F := Ideal) v3 v126 v152 v178 v204 v230 v252 v255 v258 (ix2 k s)
      = expo (ends v3 v126 v152 v178 v204 v230 v252 v255 v258 k) s := by
  fin_cases k <;>
  · pointwise [k0_pay44]
    rw [ofBits_neg_inf]
    rfl

end Masked

end Cert.KernelIdeal.Math
-- ==== Proof.KRounds.lean ====
/-
  The five rounds of the second top-k in the kernel's body, on five rows of exponentials at once.
-/
module

public import proofs.«01_k».proof.Proof.KStart

@[expose] public section

set_option maxRecDepth 16384

noncomputable section

namespace Cert.KernelIdeal.Math

open Idealize.ShloMosaic Idealize.ShloMosaic.TcCoe Idealize.SL.Sem
open Cert.KernelIdeal Cert.KernelIdeal.Gen Squad

/-- The positions of five rows of tokens. -/
abbrev places5 : IVec S5x2048 32 := iota .tc S5x2048 32 [1] iota_S5x2048_d1_w32

/-- Row `k` of a [5, 2048] vector. -/
abbrev row5 (w : FVec Ideal S5x2048 .f32) (k : Fin 5) : Fin 2048 → EReal := fun i => w (ix2 k i)

/-- The least position is looked for with 2048 as "nowhere", and what was taken is put at −1. -/
abbrev next5 (v : Fin 2048 → EReal) : Fin 2048 → EReal := rowStep 2048#32 (Ideal.ofBits .f32 0xBF800000#32) v

section First

variable (v3 : FVec Ideal S2048x1 .f32) (v126 : FVec Ideal S1x768 .f32) (v152 v178 v204 v230 : FVec Ideal S2048x1 .f32)
  (v252 : FVec Ideal S2048x768 .f32) (v255 : FVec Ideal S768x1 .f32) (v258 : FVec Ideal S1x1 .f32)

/-- The five rows the rounds start from. -/
abbrev rows5 : Fin 5 → Fin 2048 → EReal := row5 (k0_pay44 (F := Ideal) v3 v126 v152 v178 v204 v230 v252 v255 v258)

/-- The softmax denominators. -/
theorem pay45_at (k : Fin 5) (a : Fin 1) : k0_pay45 (F := Ideal) v3 v126 v152 v178 v204 v230 v252 v255 v258 (ix2 k a)
    = ∑ s, rows5 v3 v126 v152 v178 v204 v230 v252 v255 v258 k s := by
  pointwise [k0_pay45]

/-- The first round's values. -/
theorem pay46_at (k : Fin 5) (a : Fin 1) : k0_pay46 (F := Ideal) v3 v126 v152 v178 v204 v230 v252 v255 v258 (ix2 k a)
    = rowMax (rows5 v3 v126 v152 v178 v204 v230 v252 v255 v258 k) := by
  pointwise [k0_pay46]
  rw [ofBits_neg_inf]
  rfl

/-- The first round's positions. -/
theorem pay47_at (k : Fin 5) (a : Fin 1) : k0_pay47 (F := Ideal) v3 v126 v152 v178 v204 v230 v252 v255 v258 (ix2 k a)
    = rowArg 2048#32 (rows5 v3 v126 v152 v178 v204 v230 v252 v255 v258 k) := by
  pointwise [k0_pay47, pay46_at]
  rfl

/-- The rows after the first round. -/
theorem row_pay48 (k : Fin 5) : row5 (k0_pay48 (F := Ideal) v3 v126 v152 v178 v204 v230 v252 v255 v258) k
    = next5 (rows5 v3 v126 v152 v178 v204 v230 v252 v255 v258 k) := by
  funext i
  pointwise [k0_pay48, pay47_at]
  rw [select_eq]
  rfl

/-- The first round's values, divided by the denominators. -/
theorem pay49_at (k : Fin 5) (a : Fin 1) : k0_pay49 (F := Ideal) v3 v126 v152 v178 v204 v230 v252 v255 v258 (ix2 k a)
    = Ideal.div (rowMax (rows5 v3 v126 v152 v178 v204 v230 v252 v255 v258 k))
        (∑ s, rows5 v3 v126 v152 v178 v204 v230 v252 v255 v258 k s) := by
  pointwise [k0_pay49, pay46_at, pay45_at]

/-- The second round's values. -/
theorem pay50_at (k : Fin 5) (a : Fin 1) : k0_pay50 (F := Ideal) v3 v126 v152 v178 v204 v230 v252 v255 v258 (ix2 k a)
    = rowMax (row5 (k0_pay48 v3 v126 v152 v178 v204 v230 v252 v255 v258) k) := by
  pointwise [k0_pay50]
  rw [ofBits_neg_inf]
  rfl

/-- Where a row is at its greatest value its own positions, and "nowhere" elsewhere. -/
abbrev Marks (x : IVec S5x2048 32) (w : FVec Ideal S5x2048 .f32) : Prop :=
  ∀ (k : Fin 5) (i : Fin 2048), x (ix2 k i) = if row5 w k i = rowMax (row5 w k) then BitVec.ofNat 32 i else 2048#32

/-- The positions the second round takes the least of. -/
theorem marks_pay51 : Marks (k0_pay51 (F := Ideal) v3 v126 v152 v178 v204 v230 v252 v255 v258)
    (k0_pay48 v3 v126 v152 v178 v204 v230 v252 v255 v258) := by
  intro k i
  pointwise [k0_pay51, pay50_at]

end First

section Later

variable (w : FVec Ideal S5x2048 .f32) (x : IVec S5x2048 32) (hx : Marks x w)

include hx in
/-- The second round's positions. -/
theorem pay52_at (k : Fin 5) (a : Fin 1) : k0_pay52 x (ix2 k a) = rowArg 2048#32 (row5 w k) := by
  pointwise [k0_pay52]
  unfold rowArg
  refine congrArg (fun f => Finset.fold _ _ f _) (funext fun i => ?_)
  exact hx k i

include hx in
/-- The rows after the second round. -/
theorem row_pay53 (k : Fin 5) : row5 (k0_pay53 (F := Ideal) places5 w x) k = next5 (row5 w k) := by
  funext i
  pointwise [k0_pay53, pay52_at w x hx]
  rw [select_eq]
  rfl

include hx in
/-- The third round's values. -/
theorem pay54_at (k : Fin 5) (a : Fin 1) : k0_pay54 (F := Ideal) places5 w x (ix2 k a) = rowMax (next5 (row5 w k)) := by
  rw [← row_pay53 w x hx]
  pointwise [k0_pay54]
  rw [ofBits_neg_inf]
  rfl

include hx in
/-- The third round's positions. -/
theorem pay55_at (k : Fin 5) (a : Fin 1) : k0_pay55 (F := Ideal) places5 w x (ix2 k a) = rowArg 2048#32 (next5 (row5 w k)) := by
  pointwise [k0_pay55, pay54_at w x hx]
  simp only [← row_pay53 w x hx]
  rfl

include hx in
/-- The rows after the third round. -/
theorem row_pay56 (k : Fin 5) : row5 (k0_pay56 (F := Ideal) places5 w x) k = next5 (next5 (row5 w k)) := by
  funext i
  pointwise [k0_pay56, pay55_at w x hx]
  rw [select_eq]
  simp only [← row_pay53 w x hx]
  rfl

include hx in
/-- The fourth round's values. -/
theorem pay57_at (k : Fin 5) (a : Fin 1) :
    k0_pay57 (F := Ideal) places5 w x (ix2 k a) = rowMax (next5 (next5 (row5 w k))) := by
  rw [← row_pay56 w x hx]
  pointwise [k0_pay57]
  rw [ofBits_neg_inf]
  rfl

include hx in
/-- The fourth round's positions. -/
theorem pay58_at (k : Fin 5) (a : Fin 1) :
    k0_pay58 (F := Ideal) places5 w x (ix2 k a) = rowArg 2048#32 (next5 (next5 (row5 w k))) := by
  pointwise [k0_pay58, pay57_at w x hx]
  simp only [← row_pay56 w x hx]
  rfl

include hx in
/-- The rows after the fourth round. -/
theorem row_pay59 (k : Fin 5) : row5 (k0_pay59 (F := Ideal) places5 w x) k = next5 (next5 (next5 (row5 w k))) := by
  funext i
  pointwise [k0_pay59, pay58_at w x hx]
  rw [select_eq]
  simp only [← row_pay56 w x hx]
  rfl

include hx in
/-- The fifth round's values. -/
theorem pay60_at (k : Fin 5) (a : Fin 1) :
    k0_pay60 (F := Ideal) places5 w x (ix2 k a) = rowMax (next5 (next5 (next5 (row5 w k)))) := by
  rw [← row_pay59 w x hx]
  pointwise [k0_pay60]
  rw [ofBits_neg_inf]
  rfl

include hx in
/-- The fifth round's positions. -/
theorem pay61_at (k : Fin 5) (a : Fin 1) :
    k0_pay61 (F := Ideal) places5 w x (ix2 k a) = rowArg 2048#32 (next5 (next5 (next5 (row5 w k)))) := by
  pointwise [k0_pay61, pay60_at w x hx]
  simp only [← row_pay59 w x hx]
  rfl

end Later

end Cert.KernelIdeal.Math
-- ==== Proof.KStores.lean ====
/-
  What the end head and the class head of the kernel's body store.
-/
module

public import proofs.«01_k».proof.Proof.KBegin
public import proofs.«01_k».proof.Proof.KEnd
public import proofs.«01_k».proof.Proof.KRounds

@[expose] public section

set_option maxRecDepth 16384

noncomputable section

namespace Cert.KernelIdeal.Math

open Idealize.ShloMosaic Idealize.ShloMosaic.TcCoe Idealize.SL.Sem
open Cert.KernelIdeal Cert.KernelIdeal.Gen Squad

/-- The greatest of a row of exponentials after `k` rounds. -/
theorem rowMax_next5 (l : Fin 2048 → EReal) (k : Fin 5) : rowMax (next5^[k] (expo l)) = expo l (place (expo l) k) :=
  rowMax_iterate (le_refl 2048) 2048#32 (by decide) _ _ (neg_one_lt_expo l) (Fin.castLE (by decide) k)

/-- Its position. -/
theorem rowArg_next5 (l : Fin 2048 → EReal) (k : Fin 5) :
    rowArg 2048#32 (next5^[k] (expo l)) = BitVec.ofNat 32 (place (expo l) k) :=
  rowArg_iterate (le_refl 2048) 2048#32 (by decide) _ _ (neg_one_lt_expo l) (Fin.castLE (by decide) k)

section Ends

variable (v3 : FVec Ideal S2048x1 .f32) (v126 : FVec Ideal S1x768 .f32) (v152 v178 v204 v230 : FVec Ideal S2048x1 .f32)
  (v252 : FVec Ideal S2048x768 .f32) (v255 : FVec Ideal S768x1 .f32) (v258 : FVec Ideal S1x1 .f32)

/-- The rows the rounds start from are the exponentials of the end logits. -/
theorem rows5_eq (k : Fin 5) : rows5 v3 v126 v152 v178 v204 v230 v252 v255 v258 k
    = expo (ends v3 v126 v152 v178 v204 v230 v252 v255 v258 k) :=
  funext fun s => pay44_at v3 v126 v152 v178 v204 v230 v252 v255 v258 k s

/-- For each start token `k` the five greatest probabilities. -/
theorem pay62_at (a : Fin 1) (k j : Fin 5) :
    k0_pay62 (F := Ideal) (k0_pay45 v3 v126 v152 v178 v204 v230 v252 v255 v258) places5
        (k0_pay48 v3 v126 v152 v178 v204 v230 v252 v255 v258) (k0_pay49 v3 v126 v152 v178 v204 v230 v252 v255 v258)
        (k0_pay50 v3 v126 v152 v178 v204 v230 v252 v255 v258) (k0_pay51 v3 v126 v152 v178 v204 v230 v252 v255 v258) (ix3 a k j)
      = soft (ends v3 v126 v152 v178 v204 v230 v252 v255 v258 k)
          (place (expo (ends v3 v126 v152 v178 v204 v230 v252 v255 v258 k)) j) := by
  unfold soft
  rw [← rowMax_next5]
  have hm := marks_pay51 v3 v126 v152 v178 v204 v230 v252 v255 v258
  fin_cases j <;>
  · pointwise [k0_pay62, pay45_at, pay49_at, pay50_at, pay54_at _ _ hm, pay57_at _ _ hm, pay60_at _ _ hm, row_pay48]
    simp only [rows5_eq, Nat.iterate]

/-- Their positions. -/
theorem pay1_at (a : Fin 1) (k j : Fin 5) :
    k0_pay1 (k0_pay47 (F := Ideal) v3 v126 v152 v178 v204 v230 v252 v255 v258)
        (k0_pay52 (k0_pay51 (F := Ideal) v3 v126 v152 v178 v204 v230 v252 v255 v258))
        (k0_pay55 (F := Ideal) places5 (k0_pay48 v3 v126 v152 v178 v204 v230 v252 v255 v258) (k0_pay51 v3 v126 v152 v178 v204 v230 v252 v255 v258))
        (k0_pay58 (F := Ideal) places5 (k0_pay48 v3 v126 v152 v178 v204 v230 v252 v255 v258) (k0_pay51 v3 v126 v152 v178 v204 v230 v252 v255 v258))
        (k0_pay61 (F := Ideal) places5 (k0_pay48 v3 v126 v152 v178 v204 v230 v252 v255 v258) (k0_pay51 v3 v126 v152 v178 v204 v230 v252 v255 v258))
        (ix3 a k j)
      = BitVec.ofNat 32 (place (expo (ends v3 v126 v152 v178 v204 v230 v252 v255 v258 k)) j) := by
  rw [← rowArg_next5]
  have hm := marks_pay51 v3 v126 v152 v178 v204 v230 v252 v255 v258
  fin_cases j <;>
  · pointwise [k0_pay1, pay47_at, pay52_at _ _ hm, pay55_at _ _ hm, pay58_at _ _ hm, pay61_at _ _ hm, row_pay48]
    simp only [rows5_eq, Nat.iterate]

end Ends

section Class

variable (v0 : FVec Ideal S1x2048x768 .f32) (v2 : FVec Ideal S1x2048x1 .f32) (v4 : FVec Ideal S768x1 .f32) (v6 : FVec Ideal S1x1 .f32)
  (v352 : FVec Ideal S1x1x768 .f32) (v354 v357 : FVec Ideal S768x768 .f32) (v361 : FVec Ideal S1x768 .f32) (v365 : FVec Ideal S768x1 .f32)

/-- The class head. -/
theorem pay2_at (a b c : Fin 1) :
    k0_pay2 (F := Ideal) (k0_pay3 v0) (k0_pay7 v0 v2 v4 v6) (k0_pay8 v0 v2 v4 v6) v352 v354 v357 v361 v365 (ix3 a b c)
      = classLogit (fun s i => v0 (ix3 0 s i)) (soft (logits v0 v2 v4 v6)) (fun i => v352 (ix3 0 0 i))
          (fun i j => v354 (ix2 i j)) (fun i j => v357 (ix2 i j)) (fun j => v361 (ix2 0 j)) (fun j => v365 (ix2 j 0)) := by
  obtain rfl : a = 0 := Subsingleton.elim _ _
  obtain rfl : b = 0 := Subsingleton.elim _ _
  obtain rfl : c = 0 := Subsingleton.elim _ _
  pointwise [k0_pay2, k0_pay3, pay7_at, pay8_at]
  unfold classLogit layer soft
  simp only [mul_comm (v0 _)]

end Class

section Whole

variable (v0 : FVec Ideal S1x2048x768 .f32) (v2 : FVec Ideal S1x2048x1 .f32) (v39 v55 v71 v87 v99 : FVec Ideal S1x1x768 .f32)
  (v113 v116 : FVec Ideal S768x768 .f32) (v119 v123 v125 : FVec Ideal S1x768 .f32) (w : FVec Ideal S768x1 .f32) (v258 : FVec Ideal S1x1 .f32)

/-- The five start tokens' rows. -/
abbrev starts : FVec Ideal S5x768 .f32 := k0_pay30 (F := Ideal) (k0_pay13 v39) (k0_pay17 v55) (k0_pay21 v71) v87 v99

/-- What the body's end logits are, from what it loads. -/
theorem ends_eq (k : Fin 5) :
    ends (k0_pay4 (F := Ideal) v2) (k0_pay34 v125)
        (k0_pay35 (starts v39 v55 v71 v87 v99) (k0_pay31 (k0_pay3 v0) v113) v116 v119 v123 v125 w)
        (k0_pay39 (k0_pay33 v123) (k0_pay34 v125) (k0_pay36 (starts v39 v55 v71 v87 v99) (k0_pay31 (k0_pay3 v0) v113) v116 v119)
          (k0_pay37 (starts v39 v55 v71 v87 v99) (k0_pay31 (k0_pay3 v0) v113) v116 v119) k0_pay38 w)
        (k0_pay40 (k0_pay31 (k0_pay3 v0) v113) (k0_pay32 (starts v39 v55 v71 v87 v99) v116 v119) (k0_pay33 v123) (k0_pay34 v125) w)
        (k0_pay42 (k0_pay31 (k0_pay3 v0) v113) (k0_pay33 v123) (k0_pay34 v125)
          (k0_pay41 (k0_pay32 (starts v39 v55 v71 v87 v99) v116 v119)) w)
        (k0_pay43 (k0_pay31 (k0_pay3 v0) v113) (k0_pay32 (starts v39 v55 v71 v87 v99) v116 v119) (k0_pay33 v123)) w v258 k
      = endLogit (fun s i => v0 (ix3 0 s i)) (fun s => v2 (ix3 0 s 0)) (fun i j => v113 (ix2 i j)) (fun i j => v116 (ix2 i j))
          (fun j => v119 (ix2 0 j)) (fun j => v123 (ix2 0 j)) (fun j => v125 (ix2 0 j)) (fun j => w (ix2 j 0)) (v258 (ix2 0 0))
          (fun i => (![v39, v55, v71, v87, v99] k) (ix3 0 0 i)) := by
  have h : ∀ (k : Fin 5) (s : Fin 2048), column (k0_pay31 (F := Ideal) (k0_pay3 v0) v113)
      (k0_pay32 (starts v39 v55 v71 v87 v99) v116 v119) (k0_pay33 v123) (k0_pay34 v125) w k s
      = ∑ j, norm (layer (fun i => v0 (ix3 0 s i)) (fun i => (![v39, v55, v71, v87, v99] k) (ix3 0 0 i)) (fun i j => v113 (ix2 i j))
          (fun i j => v116 (ix2 i j)) (fun j => v119 (ix2 0 j))) (fun j => v123 (ix2 0 j)) (fun j => v125 (ix2 0 j)) j * w (ix2 j 0) := by
    intro k s
    unfold column
    have h33 : (fun j : Fin 768 => k0_pay33 (F := Ideal) v123 (ix2 0 j)) = fun j => v123 (ix2 0 j) := by
      funext j; pointwise [k0_pay33]
    have h34 : (fun j : Fin 768 => k0_pay34 (F := Ideal) v125 (ix2 0 j)) = fun j => v125 (ix2 0 j) := by
      funext j; pointwise [k0_pay34]
    have hh : hidden (k0_pay31 (F := Ideal) (k0_pay3 v0) v113) (k0_pay32 (starts v39 v55 v71 v87 v99) v116 v119) k s
        = layer (fun i => v0 (ix3 0 s i)) (fun i => (![v39, v55, v71, v87, v99] k) (ix3 0 0 i)) (fun i j => v113 (ix2 i j))
          (fun i j => v116 (ix2 i j)) (fun j => v119 (ix2 0 j)) := by
      funext j
      unfold layer hidden
      rw [add_assoc]
      fin_cases k <;>
      · pointwise [k0_pay31, k0_pay32, k0_pay3, k0_pay30, k0_pay13, k0_pay17, k0_pay21]
    rw [h33, h34, hh]
  funext s
  unfold ends endLogit
  rw [show k0_pay4 (F := Ideal) v2 (ix2 s 0) = v2 (ix3 0 s 0) by pointwise [k0_pay4]]
  rw [← h k s]
  congr 2
  unfold columns
  fin_cases k
  · exact pay35_at _ _ _ _ _ _ _ _ _
  · exact pay39_at _ _ _ _ _ _ _ _ _
  · exact pay40_at _ _ _ _ _ _ _
  · exact pay42_at _ _ _ _ _ _ _
  · exact Finset.sum_congr (rfl : (Finset.univ : Finset (Fin 768)) = Finset.univ) fun j _ => congrArg (· * w (ix2 j 0)) (pay43_at (k0_pay31 (F := Ideal) (k0_pay3 v0) v113)
      (k0_pay32 (starts v39 v55 v71 v87 v99) v116 v119) (k0_pay33 v123) (k0_pay34 v125) s j)

end Whole

end Cert.KernelIdeal.Math
-- ==== Proof.KBlocks.lean ====
/-
  The kernel's input blocks at a point of its grid, read at coordinates as the argument arrays.
-/
module

public import proofs.«01_k».proof.Proof.Targets
public import proofs.«01_k».proof.Proof.IdealFrame
import Idealize.ShloMosaic.Lib.Pipeline.ValueKit

@[expose] public section

set_option maxRecDepth 16384

noncomputable section

namespace Cert.KernelIdeal.Math

open Idealize.ShloMosaic Idealize.ShloMosaic.TcCoe Idealize.SL.Sem
open Cert.KernelIdeal Cert.KernelIdeal.Gen Cert.KernelIdeal.Body Squad

variable (m : (ℓ : Loc nD τ sig) → Buf (Elt Ideal) ℓ) (c : Dev nD)

/-! The argument arrays. -/

abbrev X1 : IVec S2 32 := m ((c : Thread nD τ).loc main_arg1)
abbrev X0 : FVec Ideal S2x2048x768 .f32 := m ((c : Thread nD τ).loc main_arg0)
abbrev X2 : FVec Ideal S2x2048 .f32 := m ((c : Thread nD τ).loc main_arg2)
abbrev X3 : FVec Ideal S768x1 .f32 := m ((c : Thread nD τ).loc main_arg3)
abbrev X4 : FVec Ideal S1 .f32 := m ((c : Thread nD τ).loc main_arg4)
abbrev X5 : FVec Ideal S1536x768 .f32 := m ((c : Thread nD τ).loc main_arg5)
abbrev X6 : FVec Ideal S768 .f32 := m ((c : Thread nD τ).loc main_arg6)
abbrev X7 : FVec Ideal S768 .f32 := m ((c : Thread nD τ).loc main_arg7)
abbrev X8 : FVec Ideal S768 .f32 := m ((c : Thread nD τ).loc main_arg8)
abbrev X9 : FVec Ideal S768x1 .f32 := m ((c : Thread nD τ).loc main_arg9)
abbrev X10 : FVec Ideal S1 .f32 := m ((c : Thread nD τ).loc main_arg10)
abbrev X11 : FVec Ideal S1536x768 .f32 := m ((c : Thread nD τ).loc main_arg11)
abbrev X12 : FVec Ideal S768 .f32 := m ((c : Thread nD τ).loc main_arg12)
abbrev X13 : FVec Ideal S768x1 .f32 := m ((c : Thread nD τ).loc main_arg13)

/-! Which block each window is at. -/

/-- The grid has two points. -/
theorem lt_two : ∀ t : Fin cfg0.N, t.val < 2 := (by decide +kernel : ∀ t : Fin grid0.N, _)
/-- A point's coordinate is its number. -/
theorem coord : ∀ t : Fin cfg0.N, (grid0.coords t 0).val = t.val := (by decide +kernel : ∀ t : Fin grid0.N, _)
theorem at0 : ∀ t : Fin cfg0.N, win0_0.index t = ![0] := (by decide +kernel : ∀ t : Fin grid0.N, _)
theorem at1 : ∀ t : Fin cfg0.N, win0_1.index t = ![t.val, 0, 0] := (by decide +kernel : ∀ t : Fin grid0.N, _)
theorem at2 : ∀ t : Fin cfg0.N, win0_2.index t = ![t.val, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![0, 0] := (by decide +kernel : ∀ t : Fin grid0.N, _)
theorem at13 : ∀ t : Fin cfg0.N, win0_13.index t = ![0, 0] := (by decide +kernel : ∀ t : Fin grid0.N, _)
theorem at14 : ∀ t : Fin cfg0.N, win0_14.index t = ![0, 0] := (by decide +kernel : ∀ t : Fin grid0.N, _)
theorem at15 : ∀ t : Fin cfg0.N, win0_15.index t = ![0, 0] := (by decide +kernel : ∀ t : Fin grid0.N, _)
theorem at16 : ∀ t : Fin cfg0.N, win0_16.index t = ![t.val, 0, 0] := (by decide +kernel : ∀ t : Fin grid0.N, _)
theorem at17 : ∀ t : Fin cfg0.N, win0_17.index t = ![t.val, 0, 0] := (by decide +kernel : ∀ t : Fin grid0.N, _)
theorem at18 : ∀ t : Fin cfg0.N, win0_18.index t = ![t.val, 0, 0] := (by decide +kernel : ∀ t : Fin grid0.N, _)
theorem at19 : ∀ t : Fin cfg0.N, win0_19.index t = ![t.val, 0, 0] := (by decide +kernel : ∀ t : Fin grid0.N, _)
theorem at20 : ∀ t : Fin cfg0.N, win0_20.index t = ![t.val, 0, 0] := (by decide +kernel : ∀ t : Fin grid0.N, _)

/-- The batch of a point. -/
abbrev bt (t : Fin cfg0.N) : Fin 2 := ⟨t.val, lt_two t⟩

/-! What the reshaped and sliced operands hold. -/

/-- The mask as a column. -/
theorem v0_at (b : Fin 2) (s : Fin 2048) : (V m c main_v0 : FVec Ideal S2x2048x1 .f32) (ix3 b s 0) = X2 m c (ix2 b s) := by
  simp only [V, V0, hostOps0, List.flatten_cons, List.flatten_nil, List.append_nil, List.cons_append, List.nil_append]
  entry_read
  pointwise

/-- The start bias as a matrix. -/
theorem v1_at  : (V m c main_v1 : FVec Ideal S1x1 .f32) (ix2 0 0) = X4 m c (ix1 0) := by
  simp only [V, V0, hostOps0, List.flatten_cons, List.flatten_nil, List.append_nil, List.cons_append, List.nil_append]
  entry_read
  pointwise

/-- The upper half of the end head's first weights. -/
theorem v2_at (i j : Fin 768) : (V m c main_v2 : FVec Ideal S768x768 .f32) (ix2 i j) = X5 m c (ix2 (upper i) j) := by
  simp only [V, V0, hostOps0, List.flatten_cons, List.flatten_nil, List.append_nil, List.cons_append, List.nil_append]
  entry_read
  pointwise

/-- The lower half of the end head's first weights. -/
theorem v3_at (i j : Fin 768) : (V m c main_v3 : FVec Ideal S768x768 .f32) (ix2 i j) = X5 m c (ix2 (lower i) j) := by
  simp only [V, V0, hostOps0, List.flatten_cons, List.flatten_nil, List.append_nil, List.cons_append, List.nil_append]
  entry_read
  pointwise

/-- The end head's first bias as a row. -/
theorem v4_at (j : Fin 768) : (V m c main_v4 : FVec Ideal S1x768 .f32) (ix2 0 j) = X6 m c (ix1 j) := by
  simp only [V, V0, hostOps0, List.flatten_cons, List.flatten_nil, List.append_nil, List.cons_append, List.nil_append]
  entry_read
  pointwise

/-- The layernorm's scale as a row. -/
theorem v5_at (j : Fin 768) : (V m c main_v5 : FVec Ideal S1x768 .f32) (ix2 0 j) = X7 m c (ix1 j) := by
  simp only [V, V0, hostOps0, List.flatten_cons, List.flatten_nil, List.append_nil, List.cons_append, List.nil_append]
  entry_read
  pointwise

/-- The layernorm's shift as a row. -/
theorem v6_at (j : Fin 768) : (V m c main_v6 : FVec Ideal S1x768 .f32) (ix2 0 j) = X8 m c (ix1 j) := by
  simp only [V, V0, hostOps0, List.flatten_cons, List.flatten_nil, List.append_nil, List.cons_append, List.nil_append]
  entry_read
  pointwise

/-- The end head's second bias as a matrix. -/
theorem v7_at  : (V m c main_v7 : FVec Ideal S1x1 .f32) (ix2 0 0) = X10 m c (ix1 0) := by
  simp only [V, V0, hostOps0, List.flatten_cons, List.flatten_nil, List.append_nil, List.cons_append, List.nil_append]
  entry_read
  pointwise

/-- The upper half of the class head's first weights. -/
theorem v8_at (i j : Fin 768) : (V m c main_v8 : FVec Ideal S768x768 .f32) (ix2 i j) = X11 m c (ix2 (upper i) j) := by
  simp only [V, V0, hostOps0, List.flatten_cons, List.flatten_nil, List.append_nil, List.cons_append, List.nil_append]
  entry_read
  pointwise

/-- The lower half of the class head's first weights. -/
theorem v9_at (i j : Fin 768) : (V m c main_v9 : FVec Ideal S768x768 .f32) (ix2 i j) = X11 m c (ix2 (lower i) j) := by
  simp only [V, V0, hostOps0, List.flatten_cons, List.flatten_nil, List.append_nil, List.cons_append, List.nil_append]
  entry_read
  pointwise

/-- The class head's bias as a row. -/
theorem v10_at (j : Fin 768) : (V m c main_v10 : FVec Ideal S1x768 .f32) (ix2 0 j) = X12 m c (ix1 j) := by
  simp only [V, V0, hostOps0, List.flatten_cons, List.flatten_nil, List.append_nil, List.cons_append, List.nil_append]
  entry_read
  pointwise

variable (t : Fin cfg0.N)

/-! Each input block of a point, as the part of its argument array it holds. -/

theorem blk1 (s : Fin 2048) (k : Fin 768) : (iblk m c 1 t : FVec Ideal S1x2048x768 .f32) (ix3 0 s k) = X0 m c (ix3 (bt t) s k) := by
  blk_ext [iblk, V, at1 t]

theorem blk2 (s : Fin 2048) : (iblk m c 2 t : FVec Ideal S1x2048x1 .f32) (ix3 0 s 0) = X2 m c (ix2 (bt t) s) := by
  refine Eq.trans (b := (V m c main_v0 : FVec Ideal S2x2048x1 .f32) (ix3 (bt t) s 0)) ?_ (v0_at m c _ _)
  blk_ext [iblk, at2 t]

theorem blk3 (k : Fin 768) : (iblk m c 3 t : FVec Ideal S768x1 .f32) (ix2 k 0) = X3 m c (ix2 k 0) := by
  blk_ext [iblk, V, at3 t]

theorem blk4 : (iblk m c 4 t : FVec Ideal S1x1 .f32) (ix2 0 0) = X4 m c (ix1 0) := by
  refine Eq.trans (b := (V m c main_v1 : FVec Ideal S1x1 .f32) (ix2 0 0)) ?_ (v1_at m c)
  blk_ext [iblk, at4 t]

theorem blk5 (i j : Fin 768) : (iblk m c 5 t : FVec Ideal S768x768 .f32) (ix2 i j) = X5 m c (ix2 (upper i) j) := by
  refine Eq.trans (b := (V m c main_v2 : FVec Ideal S768x768 .f32) (ix2 i j)) ?_ (v2_at m c _ _)
  blk_ext [iblk, at5 t]

theorem blk6 (i j : Fin 768) : (iblk m c 6 t : FVec Ideal S768x768 .f32) (ix2 i j) = X5 m c (ix2 (lower i) j) := by
  refine Eq.trans (b := (V m c main_v3 : FVec Ideal S768x768 .f32) (ix2 i j)) ?_ (v3_at m c _ _)
  blk_ext [iblk, at6 t]

theorem blk7 (j : Fin 768) : (iblk m c 7 t : FVec Ideal S1x768 .f32) (ix2 0 j) = X6 m c (ix1 j) := by
  refine Eq.trans (b := (V m c main_v4 : FVec Ideal S1x768 .f32) (ix2 0 j)) ?_ (v4_at m c _)
  blk_ext [iblk, at7 t]

theorem blk8 (j : Fin 768) : (iblk m c 8 t : FVec Ideal S1x768 .f32) (ix2 0 j) = X7 m c (ix1 j) := by
  refine Eq.trans (b := (V m c main_v5 : FVec Ideal S1x768 .f32) (ix2 0 j)) ?_ (v5_at m c _)
  blk_ext [iblk, at8 t]

theorem blk9 (j : Fin 768) : (iblk m c 9 t : FVec Ideal S1x768 .f32) (ix2 0 j) = X8 m c (ix1 j) := by
  refine Eq.trans (b := (V m c main_v6 : FVec Ideal S1x768 .f32) (ix2 0 j)) ?_ (v6_at m c _)
  blk_ext [iblk, at9 t]

theorem blk10 (k : Fin 768) : (iblk m c 10 t : FVec Ideal S768x1 .f32) (ix2 k 0) = X9 m c (ix2 k 0) := by
  blk_ext [iblk, V, at10 t]

theorem blk11 : (iblk m c 11 t : FVec Ideal S1x1 .f32) (ix2 0 0) = X10 m c (ix1 0) := by
  refine Eq.trans (b := (V m c main_v7 : FVec Ideal S1x1 .f32) (ix2 0 0)) ?_ (v7_at m c)
  blk_ext [iblk, at11 t]

theorem blk12 (i j : Fin 768) : (iblk m c 12 t : FVec Ideal S768x768 .f32) (ix2 i j) = X11 m c (ix2 (upper i) j) := by
  refine Eq.trans (b := (V m c main_v8 : FVec Ideal S768x768 .f32) (ix2 i j)) ?_ (v8_at m c _ _)
  blk_ext [iblk, at12 t]

theorem blk13 (i j : Fin 768) : (iblk m c 13 t : FVec Ideal S768x768 .f32) (ix2 i j) = X11 m c (ix2 (lower i) j) := by
  refine Eq.trans (b := (V m c main_v9 : FVec Ideal S768x768 .f32) (ix2 i j)) ?_ (v9_at m c _ _)
  blk_ext [iblk, at13 t]

theorem blk14 (j : Fin 768) : (iblk m c 14 t : FVec Ideal S1x768 .f32) (ix2 0 j) = X12 m c (ix1 j) := by
  refine Eq.trans (b := (V m c main_v10 : FVec Ideal S1x768 .f32) (ix2 0 j)) ?_ (v10_at m c _)
  blk_ext [iblk, at14 t]

theorem blk15 (k : Fin 768) : (iblk m c 15 t : FVec Ideal S768x1 .f32) (ix2 k 0) = X13 m c (ix2 k 0) := by
  blk_ext [iblk, V, at15 t]

theorem blk0 (b : Fin 2) : (iblk m c 0 t : IVec S2 32) (ix1 b) = X1 m c (ix1 b) := by
  blk_ext [iblk, V, at0 t]

end Cert.KernelIdeal.Math
-- ==== Proof.KBridge.lean ====
/-
  What each of the kernel's five output arrays holds after the run, over the argument arrays.
-/
module

public import proofs.«01_k».proof.Proof.KStores
public import proofs.«01_k».proof.Proof.KBlocks
import Idealize.ShloMosaic.Lib.Pipeline.ValueKit

@[expose] public section

set_option maxRecDepth 16384

noncomputable section

namespace Cert.KernelIdeal.Math

open Idealize.ShloMosaic Idealize.ShloMosaic.TcCoe Idealize.SL.Sem
open Idealize.ShloMosaic.Pipeline (Dat)
open Cert.KernelIdeal Cert.KernelIdeal.Gen Cert.KernelIdeal.Body Squad

variable (m : (ℓ : Loc nD τ sig) → Buf (Elt Ideal) ℓ) (hw : WordsOk m) (c : Dev nD)

/-- The start logits of batch `b`. -/
abbrev sb (b : Fin 2) : Fin 2048 → EReal := startRow (X0 m c) (X2 m c) (X3 m c) (X4 m c) b

/-- The end logits of batch `b` for its `k`-th start token. -/
abbrev eb (b : Fin 2) (k : Fin 5) : Fin 2048 → EReal :=
  endRow (X0 m c) (X2 m c) (X5 m c) (X6 m c) (X7 m c) (X8 m c) (X9 m c) (X10 m c) b (place (sb m c b) k)

/-- The start logits are real. -/
abbrev StartReal : Prop := ∀ (b : Fin 2) (i : Fin 2048), ∃ r : ℝ, sb m c b i = r

/-- The start values the grid leaves, by batch and rank. -/
abbrev G16 : FVec Ideal S2x1x5 .f32 := fun i => soft (sb m c (i 0)) (place (sb m c (i 0)) (i 2))
/-- The start tokens the grid leaves, by batch and rank. -/
abbrev G17 : IVec S2x1x5 32 := fun i => BitVec.ofNat 32 (place (sb m c (i 0)) (i 2))
/-- The end values the grid leaves, by batch, start rank and end rank. -/
abbrev G18 : FVec Ideal S2x5x5 .f32 := fun i => soft (eb m c (i 0) (i 1)) (place (expo (eb m c (i 0) (i 1))) (i 2))
/-- The end tokens the grid leaves, by batch, start rank and end rank. -/
abbrev G19 : IVec S2x5x5 32 := fun i => BitVec.ofNat 32 (place (expo (eb m c (i 0) (i 1))) (i 2))
/-- The class logits the grid leaves, by batch. -/
abbrev G20 : FVec Ideal S2x1x1 .f32 := fun i => classVal (X0 m c) (X1 m c) (X11 m c) (X12 m c) (X13 m c) (i 0) (soft (sb m c (i 0)))

/-- The start logits of a point's blocks are those of its batch. -/
theorem logits_blk (t : Fin cfg0.N) : logits (iblk m c 1 t) (iblk m c 2 t) (iblk m c 3 t) (iblk m c 4 t) = sb m c (bt t) := by
  unfold logits sb startRow
  simp only [blk1, blk2, blk3, blk4]

/-- A row loaded by a word is the row the word names. -/
theorem ld_row (X : FVec Ideal S1x2048x768 .f32) (o : Fin 3 → ℕ) (p : Fin 2048) (ho : o = ![0, p.val, 0])
    (h : ∀ a, o a + S1x1x768.size a ≤ S1x2048x768.size a) (i : Fin 768) :
    View.ld (Val := Elt Ideal) (e' := .f32) X (Rect.unit (s := S1x2048x768) o S1x1x768.size h) (ix3 0 0 i) = X (ix3 0 p i) := by
  subst ho
  pointwise

/-- The offsets a word gives. -/
theorem off_word (w : BitVec 32) (p : Fin 2048) (h : w = BitVec.ofNat 32 p) : k0_off1 w = ![0, p.val, 0] := by
  subst h
  have hp : (BitVec.ofNat 32 p.val).toNat = p.val := by simp; omega
  unfold k0_off1
  show ![0, (BitVec.ofNat 32 p.val).toNat, 0] = _
  rw [hp]

/-- The offsets a class word gives. -/
theorem off_word7 (w : BitVec 32) (p : Fin 2048) (h : w = BitVec.ofNat 32 p) : k0_off7 w = ![0, p.val, 0] := by
  rw [← off_word w p h]
  rfl

/-- The word a [1, 1] vector holds. -/
theorem word_at (v : IVec S1x1 32) (h) : extractAt ![0, 0] v h = v (ix2 0 0) := by
  pointwise

/-- The end logits of a point, when the rows loaded are the start tokens'. -/
theorem ends_blk (t : Fin cfg0.N) (v39 v55 v71 v87 v99 : FVec Ideal S1x1x768 .f32) (k : Fin 5)
    (h0 : ∀ i, v39 (ix3 0 0 i) = (iblk m c 1 t : FVec Ideal S1x2048x768 .f32) (ix3 0 (place (sb m c (bt t)) 0) i))
    (h1 : ∀ i, v55 (ix3 0 0 i) = (iblk m c 1 t : FVec Ideal S1x2048x768 .f32) (ix3 0 (place (sb m c (bt t)) 1) i))
    (h2 : ∀ i, v71 (ix3 0 0 i) = (iblk m c 1 t : FVec Ideal S1x2048x768 .f32) (ix3 0 (place (sb m c (bt t)) 2) i))
    (h3 : ∀ i, v87 (ix3 0 0 i) = (iblk m c 1 t : FVec Ideal S1x2048x768 .f32) (ix3 0 (place (sb m c (bt t)) 3) i))
    (h4 : ∀ i, v99 (ix3 0 0 i) = (iblk m c 1 t : FVec Ideal S1x2048x768 .f32) (ix3 0 (place (sb m c (bt t)) 4) i)) :
    ends (k0_pay4 (F := Ideal) (iblk m c 2 t)) (k0_pay34 (iblk m c 9 t))
        (k0_pay35 (starts v39 v55 v71 v87 v99) (k0_pay31 (k0_pay3 (iblk m c 1 t)) (iblk m c 5 t)) (iblk m c 6 t) (iblk m c 7 t)
          (iblk m c 8 t) (iblk m c 9 t) (iblk m c 10 t))
        (k0_pay39 (k0_pay33 (iblk m c 8 t)) (k0_pay34 (iblk m c 9 t))
          (k0_pay36 (starts v39 v55 v71 v87 v99) (k0_pay31 (k0_pay3 (iblk m c 1 t)) (iblk m c 5 t)) (iblk m c 6 t) (iblk m c 7 t))
          (k0_pay37 (starts v39 v55 v71 v87 v99) (k0_pay31 (k0_pay3 (iblk m c 1 t)) (iblk m c 5 t)) (iblk m c 6 t) (iblk m c 7 t))
          k0_pay38 (iblk m c 10 t))
        (k0_pay40 (k0_pay31 (k0_pay3 (iblk m c 1 t)) (iblk m c 5 t))
          (k0_pay32 (starts v39 v55 v71 v87 v99) (iblk m c 6 t) (iblk m c 7 t)) (k0_pay33 (iblk m c 8 t)) (k0_pay34 (iblk m c 9 t))
          (iblk m c 10 t))
        (k0_pay42 (k0_pay31 (k0_pay3 (iblk m c 1 t)) (iblk m c 5 t)) (k0_pay33 (iblk m c 8 t)) (k0_pay34 (iblk m c 9 t))
          (k0_pay41 (k0_pay32 (starts v39 v55 v71 v87 v99) (iblk m c 6 t) (iblk m c 7 t))) (iblk m c 10 t))
        (k0_pay43 (k0_pay31 (k0_pay3 (iblk m c 1 t)) (iblk m c 5 t))
          (k0_pay32 (starts v39 v55 v71 v87 v99) (iblk m c 6 t) (iblk m c 7 t)) (k0_pay33 (iblk m c 8 t)))
        (iblk m c 10 t) (iblk m c 11 t) k
      = eb m c (bt t) k := by
  have hr : ∀ (k : Fin 5) (i : Fin 768), (![v39, v55, v71, v87, v99] k) (ix3 0 0 i)
      = (iblk m c 1 t : FVec Ideal S1x2048x768 .f32) (ix3 0 (place (sb m c (bt t)) k) i) := fun k i => by
    fin_cases k
    · exact h0 i
    · exact h1 i
    · exact h2 i
    · exact h3 i
    · exact h4 i
  rw [ends_eq]
  unfold eb endRow
  simp only [hr, blk1, blk2, blk5, blk6, blk7, blk8, blk9, blk10, blk11]

/-- The five words the start head finds, each the place of a start token. -/
theorem words (t : Fin cfg0.N) (hs : StartReal m c) :
    k0_pay11 (F := Ideal) (iblk m c 1 t) (iblk m c 2 t) (iblk m c 3 t) (iblk m c 4 t) (ix2 0 0) = BitVec.ofNat 32 (place (sb m c (bt t)) 0)
      ∧ k0_pay15 (F := Ideal) places (first (iblk m c 1 t) (iblk m c 2 t) (iblk m c 3 t) (iblk m c 4 t)) (ix2 0 0)
        = BitVec.ofNat 32 (place (sb m c (bt t)) 1)
      ∧ k0_pay19 (F := Ideal) places (first (iblk m c 1 t) (iblk m c 2 t) (iblk m c 3 t) (iblk m c 4 t)) (ix2 0 0)
        = BitVec.ofNat 32 (place (sb m c (bt t)) 2)
      ∧ k0_pay24 (k0_pay23 (F := Ideal) places (first (iblk m c 1 t) (iblk m c 2 t) (iblk m c 3 t) (iblk m c 4 t))) (ix2 0 0)
        = BitVec.ofNat 32 (place (sb m c (bt t)) 3)
      ∧ k0_pay27 (F := Ideal) places (k0_pay20 places (first (iblk m c 1 t) (iblk m c 2 t) (iblk m c 3 t) (iblk m c 4 t)))
          (k0_pay23 places (first (iblk m c 1 t) (iblk m c 2 t) (iblk m c 3 t) (iblk m c 4 t))) (ix2 0 0)
        = BitVec.ofNat 32 (place (sb m c (bt t)) 4) := by
  have h := rowArg_next _ (hs (bt t))
  have e : row (first (iblk m c 1 t) (iblk m c 2 t) (iblk m c 3 t) (iblk m c 4 t)) = next (sb m c (bt t)) := by
    rw [← logits_blk]; exact row_pay12 _ _ _ _
  refine ⟨?_, ?_, ?_, ?_, ?_⟩
  · have h' : rowArg 2047#32 (next^[0] (sb m c (bt t))) = _ := h 0
    rw [pay11_at, logits_blk]; simpa only [Nat.iterate] using h'
  · have h' : rowArg 2047#32 (next^[1] (sb m c (bt t))) = _ := h 1
    rw [pay15_at, e]; simpa only [Nat.iterate] using h'
  · have h' : rowArg 2047#32 (next^[2] (sb m c (bt t))) = _ := h 2
    rw [pay19_at, e]; simpa only [Nat.iterate] using h'
  · have h' : rowArg 2047#32 (next^[3] (sb m c (bt t))) = _ := h 3
    rw [pay24_at, e]; simpa only [Nat.iterate] using h'
  · have h' : rowArg 2047#32 (next^[4] (sb m c (bt t))) = _ := h 4
    rw [pay27_at, e]; simpa only [Nat.iterate] using h'

/-- The array of start values after the run. -/
theorem final16 (hs : StartReal m c) : (dats m hw 0 c).arrAt 16 (cfgs 0).N = G16 m c := by
  refine (dats m hw 0 c).arrAt_eq_of_covers 16 _ (by decide +kernel) fun t _ y => ?_
  blk_simp
  rw [after_16]
  unfold out16
  dsimp only [runAt, run]
  frame_out
  idx_vars y
  refine (pay28_at _ _ _ _ ?_ _ _ _).trans ?_
  · rw [logits_blk]; exact hs (bt t)
  rw [logits_blk]
  refine congrArg (G16 m c) (a₁ := ix3 (bt t) 0 y2) ?_
  blk_ext [at16 t]

/-- The array of start tokens after the run. -/
theorem final17 (hs : StartReal m c) : (dats m hw 0 c).arrAt 17 (cfgs 0).N = G17 m c := by
  refine (dats m hw 0 c).arrAt_eq_of_covers 17 _ (by decide +kernel) fun t _ y => ?_
  blk_simp
  rw [after_17]
  unfold out17
  dsimp only [runAt, run]
  frame_out
  idx_vars y
  refine (pay29_at _ _ _ _ ?_ _ _ _).trans ?_
  · rw [logits_blk]; exact hs (bt t)
  rw [logits_blk]
  refine congrArg (G17 m c) (a₁ := ix3 (bt t) 0 y2) ?_
  blk_ext [at17 t]

/-- The class word of a point's block is the argument's. -/
theorem class_word (t : Fin cfg0.N) (h : ∀ a, k0_off6 (grid0.coords t) a + S1.size a ≤ S2.size a) (j : S1.Idx) :
    View.ld (Val := Elt Ideal) (iblk m c 0 t) (Rect.unit (s := S2) (k0_off6 (grid0.coords t)) S1.size h) j
      = X1 m c (ix1 (bt t)) := by
  have := coord t
  have := lt_two t
  have e : k0_off6 (grid0.coords t) 0 = t.val := by
    show (BitVec.ofNat 32 (grid0.coords t 0).val).toNat = _
    rw [coord, BitVec.toNat_ofNat, Nat.mod_eq_of_lt (by omega)]
  have e' : (Rect.unit (s := S2) (k0_off6 (grid0.coords t)) S1.size h).idx j = ix1 (bt t) := by
    funext a
    have ha : a = (0 : Fin 1) := Subsingleton.elim (α := Fin 1) a 0
    have hj : (j (0 : Fin 1)).val < 1 := (j (0 : Fin 1)).isLt
    subst ha
    refine Fin.ext ?_
    show k0_off6 (grid0.coords t) 0 + 1 * (j (0 : Fin 1)).val = t.val
    rw [e]
    omega
  rw [← blk0 m c t (bt t)]
  exact congrArg (iblk m c 0 t : IVec S2 32) e'

/-- The class logit of a point, when the row loaded is the class token's. -/
theorem class_blk (t : Fin cfg0.N) (v352 : FVec Ideal S1x1x768 .f32) (a : Fin 2048 → EReal)
    (h : ∀ i, v352 (ix3 0 0 i) = X0 m c (ix3 (bt t) (classToken (X1 m c) (bt t)) i)) :
    classLogit (fun s i => (iblk m c 1 t : FVec Ideal S1x2048x768 .f32) (ix3 0 s i)) a (fun i => v352 (ix3 0 0 i))
        (fun i j => (iblk m c 12 t : FVec Ideal S768x768 .f32) (ix2 i j)) (fun i j => (iblk m c 13 t : FVec Ideal S768x768 .f32) (ix2 i j))
        (fun j => (iblk m c 14 t : FVec Ideal S1x768 .f32) (ix2 0 j)) (fun j => (iblk m c 15 t : FVec Ideal S768x1 .f32) (ix2 j 0))
      = classVal (X0 m c) (X1 m c) (X11 m c) (X12 m c) (X13 m c) (bt t) a := by
  unfold classVal
  simp only [h, blk1, blk12, blk13, blk14, blk15]

/-- The array of class logits after the run. -/
theorem final20 (hc : ∀ b, (X1 m c (ix1 b)).toNat ≤ 2047) : (dats m hw 0 c).arrAt 20 (cfgs 0).N = G20 m c := by
  refine (dats m hw 0 c).arrAt_eq_of_covers 20 _ (by decide +kernel) fun t _ y => ?_
  blk_simp
  rw [after_20]
  unfold out20
  dsimp only [runAt, run]
  frame_out
  idx_vars y
  refine (pay2_at _ _ _ _ _ _ _ _ _ _ _ _).trans ?_
  rw [logits_blk]
  refine Eq.trans ?_ (congrArg (G20 m c) (a₁ := ix3 (bt t) 0 0) ?_)
  swap
  · blk_ext [at20 t]
  refine class_blk m c t _ _ fun i => ?_
  have hr : ∀ (w : BitVec 32) (hw : w = X1 m c (ix1 (bt t))) (h : ∀ a, k0_off7 w a + S1x1x768.size a ≤ S1x2048x768.size a)
      (i : Fin 768), View.ld (Val := Elt Ideal) (e' := .f32) (iblk m c 1 t : FVec Ideal S1x2048x768 .f32)
        (Rect.unit (s := S1x2048x768) (k0_off7 w) S1x1x768.size h) (ix3 0 0 i) = X0 m c (ix3 (bt t) (classToken (X1 m c) (bt t)) i) := by
    intro w hw h i
    have e : w = BitVec.ofNat 32 (classToken (X1 m c) (bt t)).val := by
      have := hc (bt t)
      unfold classToken
      rw [hw, Fin.val_ofNat, Nat.mod_eq_of_lt (by omega), BitVec.ofNat_toNat, BitVec.setWidth_eq]
    exact (ld_row _ _ _ (off_word7 _ _ e) _ _).trans (blk1 _ _ _ _ _)
  refine hr _ ?_ _ _
  frame_out
  exact class_word m c t _ _

/-- The array of end values after the run. -/
theorem final18 (hs : StartReal m c) : (dats m hw 0 c).arrAt 18 (cfgs 0).N = G18 m c := by
  refine (dats m hw 0 c).arrAt_eq_of_covers 18 _ (by decide +kernel) fun t _ y => ?_
  blk_simp
  rw [after_18]
  unfold out18
  dsimp only [runAt, run]
  frame_out
  idx_vars y
  refine (pay62_at _ _ _ _ _ _ _ _ _ _ _ _).trans ?_
  rw [ends_blk m c t _ _ _ _ _ _ ?_ ?_ ?_ ?_ ?_]
  · refine congrArg (G18 m c) (a₁ := ix3 (bt t) y1 y2) ?_
    blk_ext [at18 t]
  all_goals
    refine fun i => ld_row _ _ _ (off_word _ _ ((word_at _ _).trans ?_)) _ _
    frame_out
  · exact (words m c t hs).1
  · exact (words m c t hs).2.1
  · exact (words m c t hs).2.2.1
  · exact (words m c t hs).2.2.2.1
  · exact (words m c t hs).2.2.2.2

/-- The array of end tokens after the run. -/
theorem final19 (hs : StartReal m c) : (dats m hw 0 c).arrAt 19 (cfgs 0).N = G19 m c := by
  refine (dats m hw 0 c).arrAt_eq_of_covers 19 _ (by decide +kernel) fun t _ y => ?_
  blk_simp
  rw [after_19]
  unfold out19
  dsimp only [runAt, run]
  frame_out
  idx_vars y
  refine (pay1_at _ _ _ _ _ _ _ _ _ _ _ _).trans ?_
  rw [ends_blk m c t _ _ _ _ _ _ ?_ ?_ ?_ ?_ ?_]
  · refine congrArg (G19 m c) (a₁ := ix3 (bt t) y1 y2) ?_
    blk_ext [at19 t]
  all_goals
    refine fun i => ld_row _ _ _ (off_word _ _ ((word_at _ _).trans ?_)) _ _
    frame_out
  · exact (words m c t hs).1
  · exact (words m c t hs).2.1
  · exact (words m c t hs).2.2.1
  · exact (words m c t hs).2.2.2.1
  · exact (words m c t hs).2.2.2.2

end Cert.KernelIdeal.Math
-- ==== Proof.KTail.lean ====
/-
  The kernel's five results, after the reshapes and transposes that follow the grid, over the argument arrays.
-/
module

public import proofs.«01_k».proof.Proof.KBridge
import Idealize.ShloMosaic.Lib.Pipeline.ValueKit
import Idealize.ShloMosaic.Lib.Pointwise

@[expose] public section

set_option maxRecDepth 16384

noncomputable section

namespace Cert.KernelIdeal.Math

open Idealize.ShloMosaic Idealize.ShloMosaic.TcCoe Idealize.SL.Sem
open Idealize.ShloMosaic.Pipeline (Dat)
open Cert.KernelIdeal Cert.KernelIdeal.Gen Cert.KernelIdeal.Body Squad

variable (m : (ℓ : Loc nD τ sig) → Buf (Elt Ideal) ℓ) (hw : WordsOk m) (c : Dev nD)

/-- The start values, by batch and round. -/
abbrev R1 : FVec Ideal S2x5 .f32 := fun i => soft (sb m c (i 0)) (place (sb m c (i 0)) (i 1))

/-- The start tokens, by batch and round. -/
abbrev R2 : IVec S2x5 32 := fun i => BitVec.ofNat 32 (place (sb m c (i 0)) (i 1))

/-- The class logits, by batch. -/
abbrev R5 : FVec Ideal S2 .f32 := fun i => classVal (X0 m c) (X1 m c) (X11 m c) (X12 m c) (X13 m c) (i 0) (soft (sb m c (i 0)))

/-- What the host lines after the grid read of an output array is what the grid left there. -/
theorem exit_arr (w : Fin cfg0.W) :
    Pipeline.withArrays (cfgs 0).spec c (V0 m c) (fun w => (dats m hw 0 c).arrAt w (cfgs 0).N)
      (Proc.devRef .tc (Pipeline.arrRef spec0 w)) = (dats m hw 0 c).arrAt w (cfgs 0).N :=
  Pipeline.withArrays_arr (cfgs 0).spec launch0.win.arr_inj c (V0 m c) _ w

/-- The first result: the start values. -/
theorem tail12 (hs : StartReal m c) : Pipeline.afterTail₀ cfgs (dats m hw) 0 (V0 m) [hostOps1] c main_v12 = R1 m c := by
  unfold Pipeline.afterTail₀
  simp only [hostOps1, List.flatten_cons, List.flatten_nil, List.append_nil, List.cons_append, List.nil_append]
  after_results
  refine Eq.trans (congrArg (fun X => shapeCast S2x5 X shapeCasts_S2x1x5_S2x5) ((exit_arr m hw c 16).trans (final16 m hw c hs))) ?_
  funext i
  idx_vars i
  pointwise
  rfl

/-- The second result: the start tokens. -/
theorem tail13 (hs : StartReal m c) : Pipeline.afterTail₀ cfgs (dats m hw) 0 (V0 m) [hostOps1] c main_v13 = R2 m c := by
  unfold Pipeline.afterTail₀
  simp only [hostOps1, List.flatten_cons, List.flatten_nil, List.append_nil, List.cons_append, List.nil_append]
  after_results
  refine Eq.trans (congrArg (fun X => shapeCast S2x5 X shapeCasts_S2x1x5_S2x5) ((exit_arr m hw c 17).trans (final17 m hw c hs))) ?_
  funext i
  idx_vars i
  pointwise
  rfl

/-- The third result: the end values in one row, end rank first. -/
theorem tail15 (hs : StartReal m c) : Pipeline.afterTail₀ cfgs (dats m hw) 0 (V0 m) [hostOps1] c main_v15
    = shapeCast S2x25 (transpose S2x5x5 [0, 2, 1] (G18 m c) transposes_S2x5x5_S2x5x5_0_2_1) shapeCasts_S2x5x5_S2x25 := by
  unfold Pipeline.afterTail₀
  simp only [hostOps1, List.flatten_cons, List.flatten_nil, List.append_nil, List.cons_append, List.nil_append]
  after_results
  exact congrArg (fun X => shapeCast S2x25 (transpose S2x5x5 [0, 2, 1] X transposes_S2x5x5_S2x5x5_0_2_1) shapeCasts_S2x5x5_S2x25)
    ((exit_arr m hw c 18).trans (final18 m hw c hs))

/-- The fourth result: the end tokens in one row, end rank first. -/
theorem tail17 (hs : StartReal m c) : Pipeline.afterTail₀ cfgs (dats m hw) 0 (V0 m) [hostOps1] c main_v17
    = shapeCast S2x25 (transpose S2x5x5 [0, 2, 1] (G19 m c) transposes_S2x5x5_S2x5x5_0_2_1) shapeCasts_S2x5x5_S2x25 := by
  unfold Pipeline.afterTail₀
  simp only [hostOps1, List.flatten_cons, List.flatten_nil, List.append_nil, List.cons_append, List.nil_append]
  after_results
  exact congrArg (fun X => shapeCast S2x25 (transpose S2x5x5 [0, 2, 1] X transposes_S2x5x5_S2x5x5_0_2_1) shapeCasts_S2x5x5_S2x25)
    ((exit_arr m hw c 19).trans (final19 m hw c hs))

/-- The fifth result: the class logits. -/
theorem tail18 (hc : ∀ b, (X1 m c (ix1 b)).toNat ≤ 2047) :
    Pipeline.afterTail₀ cfgs (dats m hw) 0 (V0 m) [hostOps1] c main_v18 = R5 m c := by
  unfold Pipeline.afterTail₀
  simp only [hostOps1, List.flatten_cons, List.flatten_nil, List.append_nil, List.cons_append, List.nil_append]
  after_results
  refine Eq.trans (congrArg (fun X => shapeCast S2 X shapeCasts_S2x1x1_S2) ((exit_arr m hw c 20).trans (final20 m hw c hc))) ?_
  funext i
  idx_vars i
  pointwise
  rfl

end Cert.KernelIdeal.Math
-- ==== Proof.RStart.lean ====
/-
  The reference's start head: its logits, their softmax, the five it takes.
-/
module

public import proofs.«01_k».proof.Proof.Targets
public import proofs.«01_k».proof.Proof.Gen.ReferenceIdeal.Run
import Idealize.ShloMosaic.Lib.Pointwise

@[expose] public section

set_option maxRecDepth 16384

noncomputable section

namespace Cert.ReferenceIdeal.Math

open Idealize.ShloMosaic Idealize.ShloMosaic.TcCoe Idealize.SL.Sem
open Cert.ReferenceIdeal Cert.ReferenceIdeal.Gen Cert.ReferenceIdeal.Value Squad

variable (V0 : Valuation τ sig (Elt Ideal))

/-- Argument 0: the hidden rows. -/
abbrev A0 : FVec Ideal S2x2048x768 .f32 := V0 (Proc.devRef .tc main_arg0)
/-- Argument 1: the class words. -/
abbrev A1 : IVec S2 32 := V0 (Proc.devRef .tc main_arg1)
/-- Argument 2: the mask. -/
abbrev A2 : FVec Ideal S2x2048 .f32 := V0 (Proc.devRef .tc main_arg2)
/-- Argument 3: the start weights. -/
abbrev A3 : FVec Ideal S768x1 .f32 := V0 (Proc.devRef .tc main_arg3)
/-- Argument 4: the start bias. -/
abbrev A4 : FVec Ideal S1 .f32 := V0 (Proc.devRef .tc main_arg4)

/-- The start logits of batch `b`. -/
abbrev sr (b : Fin 2) : Fin 2048 → EReal := startRow (A0 V0) (A2 V0) (A3 V0) (A4 V0) b

/-- The reference's masked start logits. -/
theorem v10_at (b : Fin 2) (s : Fin 2048) : (res_main_v10 V0 : FVec Ideal S2x2048 .f32) (ix2 b s) = sr V0 b s := by
  unfold sr startRow startLogit
  rw [← under_sub]
  pointwise [res_main_v10]

/-- The numerators of a softmax along the rows of a matrix. -/
theorem exp_rows (x : FVec Ideal S2x2048 .f32) (b : Fin 2) (s : Fin 2048) :
    Host.exp (subf x (broadcastInDim S2x2048 ![0, 1] bcast_S2x1_S2x2048_0_1 (broadcastInDim S2x1 ![0] bcast_S2_S2x1_0
      (maximumf (broadcastInDim S2 ![] bcast_S_S2 (constant S_ .f32 0xFF800000#32))
        (Host.reduce FloatOps.maximumf x (constant S_ .f32 0xFF800000#32) reducesTo_S2x2048_S2_d1 h_S_))))) (ix2 b s)
      = expo (fun s => x (ix2 b s)) s := by
  pointwise
  rw [ofBits_neg_inf, max_eq_right bot_le]
  rfl

/-- The reference's start numerators. -/
theorem v17_at (b : Fin 2) (s : Fin 2048) : (res_main_v17 V0 : FVec Ideal S2x2048 .f32) (ix2 b s) = expo (sr V0 b) s := by
  refine (exp_rows (res_main_v10 V0) b s).trans ?_
  simp only [v10_at]

/-- The reference's start softmax. -/
theorem v21_at (b : Fin 2) (s : Fin 2048) : (res_main_v21 V0 : FVec Ideal S2x2048 .f32) (ix2 b s) = soft (sr V0 b) s := by
  pointwise [res_main_v21, v17_at]
  rfl

/-- "Greater", as the top-k compares. -/
theorem cmpf_gt (a b : EReal) : (FloatOps.cmpfTotal (F := Ideal) (φ := .f32) .gt a b == 1#1) = decide (b < a) := by
  show (BitVec.ofBool (decide (b < a)) == 1#1) = _
  by_cases h : b < a <;> simp [h]

/-- The position a sort along a row finds. -/
theorem sorted_row {n : ℕ} (v : Fin n → EReal) (k : Fin n) :
    sortedFrom (fun i j => FloatOps.cmpfTotal (F := Ideal) (φ := .f32) .gt (v i) (v j) == 1#1) k = order v k := by
  simp only [cmpf_gt]
  rfl

/-- The last coordinate replaced. -/
theorem along2 (b : Fin 2) (k s : Fin 2048) : (ix2 b k : S2x2048.Idx).along 1 s = ix2 b s := by
  funext a
  fin_cases a <;> rfl

/-- The five greatest of each row of a matrix, and their columns. -/
abbrev top2 (x : FVec Ideal S2x2048 .f32) : FVec Ideal S2x5 .f32 × IVec S2x5 32 :=
  Host.topK S2x5 1 (FloatOps.cmpfTotal .gt) x sliceFits_S2x2048_S2x5

/-- They are where the order of the row says. -/
theorem topK2 (x : FVec Ideal S2x2048 .f32) (b : Fin 2) (k : Fin 5) :
    (top2 x).1 (ix2 b k) = x (ix2 b (place (fun s => x (ix2 b s)) k))
      ∧ (top2 x).2 (ix2 b k) = BitVec.ofNat 32 (place (fun s => x (ix2 b s)) k) := by
  constructor
  · unfold top2 Host.topK Host.sort2
    pointwise
    refine congrArg x ?_
    simp only [along2]
    exact congrArg (ix2 b) (sorted_row (fun s => x (ix2 b s)) _)
  · unfold top2 Host.topK Host.sort2
    pointwise
    simp only [along2]
    exact congrArg (fun s : Fin 2048 => BitVec.ofNat 32 s.val) (sorted_row (fun s => x (ix2 b s)) _)

/-- The reference's start values and start tokens. -/
theorem starts_at (hs : ∀ b s, ∃ r : ℝ, sr V0 b s = r) (b : Fin 2) (k : Fin 5) :
    (top2 (res_main_v21 V0)).1 (ix2 b k)
        = soft (sr V0 b) (place (sr V0 b) k)
      ∧ (top2 (res_main_v21 V0)).2 (ix2 b k)
        = BitVec.ofNat 32 (place (sr V0 b) k) := by
  have e : (fun s => (res_main_v21 V0 : FVec Ideal S2x2048 .f32) (ix2 b s)) = soft (sr V0 b) := funext fun s => v21_at V0 b s
  have h := topK2 (res_main_v21 V0) b k
  rw [e, v21_at] at h
  unfold place at h ⊢
  rw [order_soft _ (hs b)] at h
  exact h

/-- Words by batch and round, repeated along 768 columns. -/
theorem rows5_at (x : IVec S2x5 32) (b : Fin 2) (k : Fin 5) (i : Fin 768) :
    broadcastInDim S2x5x768 ![0, 1, 2] bcast_S2x5x1_S2x5x768_0_1_2 (broadcastInDim S2x5x1 ![0, 1] bcast_S2x5_S2x5x1_0_1 x) (ix3 b k i)
      = x (ix2 b k) := by
  pointwise

/-- The start tokens, one word for each of the 768 columns of the row that is read. -/
theorem v23_at (hs : ∀ b s, ∃ r : ℝ, sr V0 b s = r) (b : Fin 2) (k : Fin 5) (i : Fin 768) :
    (res_main_v23 V0 : IVec S2x5x768 32) (ix3 b k i) = BitVec.ofNat 32 (place (sr V0 b) k) := by
  rw [← (starts_at V0 hs b k).2]
  exact rows5_at (top2 (res_main_v21 V0)).2 b k i

end Cert.ReferenceIdeal.Math
-- ==== Proof.RRows.lean ====
/-
  The rows the reference reads at a word inside the range: the word is itself after the wrap of negative words, it
  passes both range checks, and the row read is the one it names.
-/
module

public import proofs.«01_k».proof.Proof.RStart
import Idealize.ShloMosaic.Lib.Pointwise

@[expose] public section

set_option maxRecDepth 16384

noncomputable section

namespace Cert.ReferenceIdeal.Math

open Idealize.ShloMosaic Idealize.ShloMosaic.TcCoe Idealize.SL.Sem
open Cert.ReferenceIdeal Cert.ReferenceIdeal.Gen Cert.ReferenceIdeal.Value Squad

/-- A row number as a word reads back as itself. -/
theorem toInt_row (p : Fin 2048) : (BitVec.ofNat 32 p.val).toInt = p.val := by
  have := p.isLt
  have h : (BitVec.ofNat 32 p.val).toNat = p.val := by rw [BitVec.toNat_ofNat]; omega
  rw [BitVec.toInt_eq_toNat_of_lt (by omega), h]

/-- A word in the range is not negative. -/
theorem wrap (p : Fin 2048) (x : BitVec 32) :
    Scalar.select (IntOp.cmpi .slt (BitVec.ofNat 32 p.val) 0#32) x (BitVec.ofNat 32 p.val) = BitVec.ofNat 32 p.val := by
  have h : IntOp.cmpi .slt (BitVec.ofNat 32 p.val) 0#32 = 0#1 := by
    show BitVec.ofBool (decide ((BitVec.ofNat 32 p.val).toInt < 0)) = 0#1
    rw [toInt_row, decide_eq_false (by omega)]
    rfl
  rw [h]
  rfl

/-- A word in the range passes both checks. -/
theorem checks (p : Fin 2048) :
    IntOp.andi (IntOp.cmpi .sge (BitVec.ofNat 32 p.val) 0#32) (IntOp.cmpi .sle (BitVec.ofNat 32 p.val) 2047#32) = 1#1 := by
  have h1 : IntOp.cmpi .sge (BitVec.ofNat 32 p.val) 0#32 = 1#1 := by
    show BitVec.ofBool (decide (0 ≤ (BitVec.ofNat 32 p.val).toInt)) = 1#1
    rw [toInt_row, decide_eq_true (by omega)]
    rfl
  have h2 : IntOp.cmpi .sle (BitVec.ofNat 32 p.val) 2047#32 = 1#1 := by
    show BitVec.ofBool (decide ((BitVec.ofNat 32 p.val).toInt ≤ 2047)) = 1#1
    rw [toInt_row, decide_eq_true (by have := p.isLt; omega)]
    rfl
  rw [h1, h2]
  rfl

/-- A row number as a word, held inside the array, is itself. -/
theorem toInt_word (p : Fin 2048) : min (BitVec.ofNat 32 p.val).toInt.toNat (2048 - 1) = p.val := by
  have := p.isLt
  simp [BitVec.toInt]
  omega

/-- The row of five read at five words, column by column. -/
theorem gather5 (x : FVec Ideal S2x2048x768 .f32) (w : IVec S2x5x768x1 32) (b : Fin 2) (k : Fin 5) (i : Fin 768) (p : Fin 2048)
    (h : w (ix4 b k i 0) = BitVec.ofNat 32 p.val) :
    Host.gather gather_S2x2048x768_S2x5x768x1_S2x5x768_n_1_02_02_1_3_111 x w (ix3 b k i) = x (ix3 b p i) := by
  unfold Host.gather
  refine congrArg x ?_
  funext a
  refine Fin.ext ?_
  show GatherDims.start _ (ix3 b k i) w a + GatherDims.batchCoord _ (ix3 b k i) a + GatherDims.offCoord _ (ix3 b k i) a = _
  fin_cases a
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    refine Eq.trans ?_ (toInt_word p)
    rw [← h]
    refine congrArg (fun z => min (w z).toInt.toNat (2048 - 1)) ?_
    funext c
    refine Fin.ext ?_
    fin_cases c <;> rfl
  · rw [GatherDims.start_batching _ _ _ _ (by decide), GatherDims.offCoord_eq_zero _ _ _ (by decide)]
    simp only [Nat.zero_add, Nat.add_zero]
    unfold GatherDims.batchCoord
    rw [dif_pos (by decide)]
    rfl

/-- The class token's row, column by column. -/
theorem gather1 (x : FVec Ideal S2x2048x768 .f32) (w : IVec S2x1x768x1 32) (b : Fin 2) (i : Fin 768) (p : Fin 2048)
    (h : w (ix4 b 0 i 0) = BitVec.ofNat 32 p.val) :
    Host.gather gather_S2x2048x768_S2x1x768x1_S2x1x768_n_1_02_02_1_3_111 x w (ix3 b 0 i) = x (ix3 b p i) := by
  unfold Host.gather
  refine congrArg x ?_
  funext a
  refine Fin.ext ?_
  show GatherDims.start _ (ix3 b 0 i) w a + GatherDims.batchCoord _ (ix3 b 0 i) a + GatherDims.offCoord _ (ix3 b 0 i) a = _
  fin_cases a
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    refine Eq.trans ?_ (toInt_word p)
    rw [← h]
    refine congrArg (fun z => min (w z).toInt.toNat (2048 - 1)) ?_
    funext c
    refine Fin.ext ?_
    fin_cases c <;> rfl
  · rw [GatherDims.start_batching _ _ _ _ (by decide), GatherDims.offCoord_eq_zero _ _ _ (by decide)]
    simp only [Nat.zero_add, Nat.add_zero]
    unfold GatherDims.batchCoord
    rw [dif_pos (by decide)]
    rfl

/-- The words of five rows, wrapped. -/
abbrev wrapped5 (v : IVec S2x5x768 32) : IVec S2x5x768x1 32 :=
  shapeCast _ (select (cmpi .slt v (broadcastInDim S2x5x768 ![] bcast_S_S2x5x768 (constantI S_ 32 0#32)))
    (addi v (broadcastInDim S2x5x768 ![] bcast_S_S2x5x768 (constantI S_ 32 2048#32))) v) shapeCasts_S2x5x768_S2x5x768x1

/-- A word naming a row is not wrapped. -/
theorem wrapped5_at (v : IVec S2x5x768 32) (b : Fin 2) (k : Fin 5) (i : Fin 768) (p : Fin 2048) (h : v (ix3 b k i) = BitVec.ofNat 32 p.val) :
    wrapped5 v (ix4 b k i 0) = BitVec.ofNat 32 p.val := by
  pointwise
  rw [h]
  exact wrap p _

/-- Whether a word of five passes both checks. -/
abbrev inside5 (w : IVec S2x5x768x1 32) : IVec S2x5x768 1 :=
  Host.reduce IntOp.andi (andi (cmpi .sge w (broadcastInDim S2x5x768x1 ![] bcast_S_S2x5x768x1 (constantI S_ 32 0#32)))
    (cmpi .sle w (broadcastInDim S2x5x768x1 ![0, 1, 2, 3] bcast_S1x1x1x1_S2x5x768x1_0_1_2_3 (broadcastInDim S1x1x1x1 ![3] bcast_S1_S1x1x1x1_3 (constantI S1 32 2047#32)))))
    (constantI S_ 1 1#1) reducesTo_S2x5x768x1_S2x5x768_d3 h_S_

/-- The row a word names, or a filler outside the range. -/
theorem take5_at (x : FVec Ideal S2x2048x768 .f32) (w : IVec S2x5x768x1 32) (b : Fin 2) (k : Fin 5) (i : Fin 768) (p : Fin 2048)
    (h : w (ix4 b k i 0) = BitVec.ofNat 32 p.val) :
    select (inside5 w) (Host.gather gather_S2x2048x768_S2x5x768x1_S2x5x768_n_1_02_02_1_3_111 x w)
        (broadcastInDim S2x5x768 ![] bcast_S_S2x5x768 (constant S_ .f32 0x7FC00000#32)) (ix3 b k i) = x (ix3 b p i) := by
  have g := gather5 x w b k i p h
  have e : inside5 w (ix3 b k i) = 1#1 := by
    pointwise
    rw [Finset.univ_unique, Finset.fold_singleton]
    show IntOp.andi (IntOp.andi (IntOp.cmpi .sge (w (ix4 b k i 0)) 0#32) (IntOp.cmpi .sle (w (ix4 b k i 0)) 2047#32)) 1#1 = 1#1
    rw [h, checks]
    rfl
  show Scalar.select (inside5 w (ix3 b k i)) _ _ = _
  rw [e]
  exact g

/-- The class words, wrapped. -/
abbrev wrapped1 (v : IVec S2x1x768 32) : IVec S2x1x768x1 32 :=
  shapeCast _ (select (cmpi .slt v (broadcastInDim S2x1x768 ![] bcast_S_S2x1x768 (constantI S_ 32 0#32)))
    (addi v (broadcastInDim S2x1x768 ![] bcast_S_S2x1x768 (constantI S_ 32 2048#32))) v) shapeCasts_S2x1x768_S2x1x768x1

/-- A word naming a row is not wrapped. -/
theorem wrapped1_at (v : IVec S2x1x768 32) (b : Fin 2) (i : Fin 768) (p : Fin 2048) (h : v (ix3 b 0 i) = BitVec.ofNat 32 p.val) :
    wrapped1 v (ix4 b 0 i 0) = BitVec.ofNat 32 p.val := by
  pointwise
  rw [h]
  exact wrap p _

/-- Whether a class word passes both checks. -/
abbrev inside1 (w : IVec S2x1x768x1 32) : IVec S2x1x768 1 :=
  Host.reduce IntOp.andi (andi (cmpi .sge w (broadcastInDim S2x1x768x1 ![] bcast_S_S2x1x768x1 (constantI S_ 32 0#32)))
    (cmpi .sle w (broadcastInDim S2x1x768x1 ![0, 1, 2, 3] bcast_S1x1x1x1_S2x1x768x1_0_1_2_3 (broadcastInDim S1x1x1x1 ![3] bcast_S1_S1x1x1x1_3 (constantI S1 32 2047#32)))))
    (constantI S_ 1 1#1) reducesTo_S2x1x768x1_S2x1x768_d3 h_S_

/-- The row the class word names, or a filler outside the range. -/
theorem take1_at (x : FVec Ideal S2x2048x768 .f32) (w : IVec S2x1x768x1 32) (b : Fin 2) (i : Fin 768) (p : Fin 2048)
    (h : w (ix4 b 0 i 0) = BitVec.ofNat 32 p.val) :
    select (inside1 w) (Host.gather gather_S2x2048x768_S2x1x768x1_S2x1x768_n_1_02_02_1_3_111 x w)
        (broadcastInDim S2x1x768 ![] bcast_S_S2x1x768 (constant S_ .f32 0x7FC00000#32)) (ix3 b 0 i) = x (ix3 b p i) := by
  have g := gather1 x w b i p h
  have e : inside1 w (ix3 b 0 i) = 1#1 := by
    pointwise
    rw [Finset.univ_unique, Finset.fold_singleton]
    show IntOp.andi (IntOp.andi (IntOp.cmpi .sge (w (ix4 b 0 i 0)) 0#32) (IntOp.cmpi .sle (w (ix4 b 0 i 0)) 2047#32)) 1#1 = 1#1
    rw [h, checks]
    rfl
  show Scalar.select (inside1 w (ix3 b 0 i)) _ _ = _
  rw [e]
  exact g

end Cert.ReferenceIdeal.Math
-- ==== Proof.RHidden.lean ====
/-
  The reference's end head up to its layernorm: the hidden row of each token beside each start token, its mean, its
  distance from the mean.
-/
module

public import proofs.«01_k».proof.Proof.RRows
import Idealize.ShloMosaic.Lib.Pointwise

@[expose] public section

set_option maxRecDepth 16384

noncomputable section

namespace Cert.ReferenceIdeal.Math

open Idealize.ShloMosaic Idealize.ShloMosaic.TcCoe Idealize.SL.Sem
open Cert.ReferenceIdeal Cert.ReferenceIdeal.Gen Cert.ReferenceIdeal.Value Squad

/-- Each token's row beside each start row. -/
abbrev beside (x : FVec Ideal S2x2048x768 .f32) (r : FVec Ideal S2x5x768 .f32) : FVec Ideal S2x2048x5x1536 .f32 :=
  concatenate S2x2048x5x1536 3 [⟨S2x2048x5x768, (broadcastInDim S2x2048x5x768 ![0, 1, 2, 3] bcast_S2x2048x1x768_S2x2048x5x768_0_1_2_3 (broadcastInDim S2x2048x1x768 ![0, 1, 3] bcast_S2x2048x768_S2x2048x1x768_0_1_3 x))⟩, ⟨S2x2048x5x768, (broadcastInDim S2x2048x5x768 ![0, 1, 2, 3] bcast_S2x1x5x768_S2x2048x5x768_0_1_2_3 (broadcastInDim S2x1x5x768 ![0, 2, 3] bcast_S2x5x768_S2x1x5x768_0_2_3 r))⟩] concatenates_S2x2048x5x768_S2x2048x5x768_S2x2048x5x1536_d3

/-- The hidden layer of the end head at coordinates. -/
theorem hidden_at (x : FVec Ideal S2x2048x768 .f32) (r : FVec Ideal S2x5x768 .f32) (w : FVec Ideal S1536x768 .f32) (c : FVec Ideal S768 .f32)
    (b : Fin 2) (s : Fin 2048) (k : Fin 5) (j : Fin 768) :
    Host.tanh (addf (Host.dotGeneral dot_S2x2048x5x1536_S1536x768_S2x2048x5x768_3_0_012_1_n_n none (beside x r) w)
        (broadcastInDim S2x2048x5x768 ![0, 1, 2, 3] bcast_S1x1x1x768_S2x2048x5x768_0_1_2_3 (broadcastInDim S1x1x1x768 ![3] bcast_S768_S1x1x1x768_3 c)))
        (ix4 b s k j)
      = layer (fun i => x (ix3 b s i)) (fun i => r (ix3 b k i)) (fun i j => w (ix2 (upper i) j)) (fun i j => w (ix2 (lower i) j))
          (fun j => c (ix1 j)) j := by
  pointwise
  rfl

variable (V0 : Valuation τ sig (Elt Ideal))

/-- Argument 5: the end head's first weights. -/
abbrev A5 : FVec Ideal S1536x768 .f32 := V0 (Proc.devRef .tc main_arg5)
/-- Argument 6: the end head's first bias. -/
abbrev A6 : FVec Ideal S768 .f32 := V0 (Proc.devRef .tc main_arg6)
/-- Argument 7: the layernorm's scale. -/
abbrev A7 : FVec Ideal S768 .f32 := V0 (Proc.devRef .tc main_arg7)
/-- Argument 8: the layernorm's shift. -/
abbrev A8 : FVec Ideal S768 .f32 := V0 (Proc.devRef .tc main_arg8)
/-- Argument 9: the end head's second weights. -/
abbrev A9 : FVec Ideal S768x1 .f32 := V0 (Proc.devRef .tc main_arg9)
/-- Argument 10: the end head's second bias. -/
abbrev A10 : FVec Ideal S1 .f32 := V0 (Proc.devRef .tc main_arg10)

/-- The hidden row of token `s` beside the `k`-th start token of batch `b`. -/
abbrev hid (b : Fin 2) (s : Fin 2048) (k : Fin 5) : Fin 768 → EReal :=
  layer (fun i => A0 V0 (ix3 b s i)) (fun i => A0 V0 (ix3 b (place (sr V0 b) k) i)) (fun i j => A5 V0 (ix2 (upper i) j))
    (fun i j => A5 V0 (ix2 (lower i) j)) (fun j => A6 V0 (ix1 j))

/-- The reference's hidden layer. -/
theorem v34_at (hs : ∀ b s, ∃ r : ℝ, sr V0 b s = r) (b : Fin 2) (s : Fin 2048) (k : Fin 5) (j : Fin 768) :
    (res_main_v34 V0 : FVec Ideal S2x2048x5x768 .f32) (ix4 b s k j) = hid V0 b s k j := by
  refine (hidden_at (A0 V0) (select (inside5 (wrapped5 (res_main_v23 V0)))
    (Host.gather gather_S2x2048x768_S2x5x768x1_S2x5x768_n_1_02_02_1_3_111 (A0 V0) (wrapped5 (res_main_v23 V0)))
    (broadcastInDim S2x5x768 ![] bcast_S_S2x5x768 (constant S_ .f32 0x7FC00000#32))) (A5 V0) (A6 V0) b s k j).trans ?_
  have h : ∀ i, select (inside5 (wrapped5 (res_main_v23 V0)))
      (Host.gather gather_S2x2048x768_S2x5x768x1_S2x5x768_n_1_02_02_1_3_111 (A0 V0) (wrapped5 (res_main_v23 V0)))
      (broadcastInDim S2x5x768 ![] bcast_S_S2x5x768 (constant S_ .f32 0x7FC00000#32)) (ix3 b k i) = A0 V0 (ix3 b (place (sr V0 b) k) i) :=
    fun i => take5_at _ _ b k i _ (wrapped5_at _ b k i _ (v23_at V0 hs b k i))
  simp only [h]

/-- The mean of each row of 768. -/
theorem mean_at (H : FVec Ideal S2x2048x5x768 .f32) (b : Fin 2) (s : Fin 2048) (k : Fin 5) :
    Host.divf (broadcastInDim S2x2048x5x1 ![0, 1, 2] bcast_S2x2048x5_S2x2048x5x1_0_1_2 (Host.reduceAdd H (constant S_ .f32 0x00000000#32) reducesTo_S2x2048x5x768_S2x2048x5_d3 h_S_)) (broadcastInDim S2x2048x5x1 ![] bcast_S_S2x2048x5x1 (constant S_ .f32 0x44400000#32)) (ix4 b s k 0)
      = mean fun j => H (ix4 b s k j) := by
  pointwise
  rfl

/-- The distance of each element from the mean of its row. -/
theorem apart_at (H : FVec Ideal S2x2048x5x768 .f32) (M : FVec Ideal S2x2048x5x1 .f32) (b : Fin 2) (s : Fin 2048) (k : Fin 5) (j : Fin 768) :
    subf H (broadcastInDim S2x2048x5x768 ![0, 1, 2, 3] bcast_S2x2048x5x1_S2x2048x5x768_0_1_2_3 M) (ix4 b s k j)
      = H (ix4 b s k j) - M (ix4 b s k 0) := by
  pointwise

/-- The reference's mean of the hidden layer. -/
theorem v38_at (hs : ∀ b s, ∃ r : ℝ, sr V0 b s = r) (b : Fin 2) (s : Fin 2048) (k : Fin 5) :
    (res_main_v38 V0 : FVec Ideal S2x2048x5x1 .f32) (ix4 b s k 0) = mean (hid V0 b s k) := by
  refine (mean_at (res_main_v34 V0) b s k).trans ?_
  simp only [v34_at V0 hs]

/-- The reference's hidden layer less its mean. -/
theorem v40_at (hs : ∀ b s, ∃ r : ℝ, sr V0 b s = r) (b : Fin 2) (s : Fin 2048) (k : Fin 5) (j : Fin 768) :
    (res_main_v40 V0 : FVec Ideal S2x2048x5x768 .f32) (ix4 b s k j) = hid V0 b s k j - mean (hid V0 b s k) := by
  refine (apart_at (res_main_v34 V0) (res_main_v38 V0) b s k j).trans ?_
  rw [v34_at V0 hs, v38_at V0 hs]

/-- The end logits over the rows `H`, their means `M`, their distances `D` and the masks. -/
theorem logit_at (H D : FVec Ideal S2x2048x5x768 .f32) (M : FVec Ideal S2x2048x5x1 .f32) (g o : FVec Ideal S768 .f32)
    (w : FVec Ideal S768x1 .f32) (c : FVec Ideal S1 .f32) (q : FVec Ideal S2x2048x1 .f32) (b : Fin 2) (s : Fin 2048) (k : Fin 5) :
    subf (mulf (shapeCast S2x2048x5 (addf (Host.dotGeneral dot_S2x2048x5x768_S768x1_S2x2048x5x1_3_0_012_1_n_n none (addf (mulf (Host.divf (subf H (broadcastInDim S2x2048x5x768 ![0, 1, 2, 3] bcast_S2x2048x5x1_S2x2048x5x768_0_1_2_3 M)) (broadcastInDim S2x2048x5x768 ![0, 1, 2, 3] bcast_S2x2048x5x1_S2x2048x5x768_0_1_2_3 (Host.sqrt (addf (Host.divf (broadcastInDim S2x2048x5x1 ![0, 1, 2] bcast_S2x2048x5_S2x2048x5x1_0_1_2 (Host.reduceAdd (mulf D D) (constant S_ .f32 0x00000000#32) reducesTo_S2x2048x5x768_S2x2048x5_d3 h_S_)) (broadcastInDim S2x2048x5x1 ![] bcast_S_S2x2048x5x1 (constant S_ .f32 0x44400000#32))) (broadcastInDim S2x2048x5x1 ![] bcast_S_S2x2048x5x1 (constant S_ .f32 0x2B8CBCCC#32)))))) (broadcastInDim S2x2048x5x768 ![0, 1, 2, 3] bcast_S1x1x1x768_S2x2048x5x768_0_1_2_3 (broadcastInDim S1x1x1x768 ![3] bcast_S768_S1x1x1x768_3 g))) (broadcastInDim S2x2048x5x768 ![0, 1, 2, 3] bcast_S1x1x1x768_S2x2048x5x768_0_1_2_3 (broadcastInDim S1x1x1x768 ![3] bcast_S768_S1x1x1x768_3 o))) w) (broadcastInDim S2x2048x5x1 ![0, 1, 2, 3] bcast_S1x1x1x1_S2x2048x5x1_0_1_2_3 (broadcastInDim S1x1x1x1 ![3] bcast_S1_S1x1x1x1_3 c))) shapeCasts_S2x2048x5x1_S2x2048x5) (broadcastInDim S2x2048x5 ![0, 1, 2] bcast_S2x2048x1_S2x2048x5_0_1_2 (subf (broadcastInDim S2x2048x1 ![] bcast_S_S2x2048x1 (constant S_ .f32 0x3F800000#32)) q))) (broadcastInDim S2x2048x5 ![0, 1, 2] bcast_S2x2048x1_S2x2048x5_0_1_2 (mulf (broadcastInDim S2x2048x1 ![] bcast_S_S2x2048x1 (constant S_ .f32 0x7149F2CA#32)) q)) (ix3 b s k)
      = under ((∑ j, (Ideal.div (H (ix4 b s k j) - M (ix4 b s k 0))
            (Ideal.sqrt (Ideal.div (∑ j, D (ix4 b s k j) * D (ix4 b s k j)) width + tiny)) * g (ix1 j) + o (ix1 j)) * w (ix2 j 0))
          + c (ix1 0)) (q (ix3 b s 0)) := by
  rw [← under_sub]
  pointwise
  rfl

/-- The mask, repeated for each start token. -/
theorem mask_at (p : FVec Ideal S2x2048 .f32) (b : Fin 2) (s : Fin 2048) :
    broadcastInDim S2x2048x1 ![0, 1] bcast_S2x2048_S2x2048x1_0_1 p (ix3 b s 0) = p (ix2 b s) := by
  pointwise

/-- The end logits of batch `b` for its `k`-th start token. -/
abbrev er (b : Fin 2) (k : Fin 5) : Fin 2048 → EReal :=
  endRow (A0 V0) (A2 V0) (A5 V0) (A6 V0) (A7 V0) (A8 V0) (A9 V0) (A10 V0) b (place (sr V0 b) k)

/-- The reference's masked end logits. -/
theorem v72_at (hs : ∀ b s, ∃ r : ℝ, sr V0 b s = r) (b : Fin 2) (s : Fin 2048) (k : Fin 5) :
    (res_main_v72 V0 : FVec Ideal S2x2048x5 .f32) (ix3 b s k) = er V0 b k s := by
  refine (logit_at (res_main_v34 V0) (res_main_v40 V0) (res_main_v38 V0) (A7 V0) (A8 V0) (A9 V0) (A10 V0) (res_main_v64 V0) b s k).trans ?_
  have hq : (res_main_v64 V0 : FVec Ideal S2x2048x1 .f32) (ix3 b s 0) = A2 V0 (ix2 b s) := mask_at (A2 V0) b s
  rw [hq]
  simp only [v34_at V0 hs, v38_at V0 hs, v40_at V0 hs]
  have hn : ∀ j, Ideal.div (hid V0 b s k j - mean (hid V0 b s k)) (Ideal.sqrt (Ideal.div (∑ j, (hid V0 b s k j - mean (hid V0 b s k))
      * (hid V0 b s k j - mean (hid V0 b s k))) width + tiny)) * A7 V0 (ix1 j) + A8 V0 (ix1 j)
        = norm (hid V0 b s k) (fun j => A7 V0 (ix1 j)) (fun j => A8 V0 (ix1 j)) j :=
    fun j => norm_div (hid V0 b s k) (fun j => A7 V0 (ix1 j)) (fun j => A8 V0 (ix1 j)) (fun j => tanh_real _) j
  simp only [hn]
  rfl

end Cert.ReferenceIdeal.Math
-- ==== Proof.REnd.lean ====
/-
  The reference's end head from its logits on: the softmax over the tokens, the five it takes for each start token.
-/
module

public import proofs.«01_k».proof.Proof.RHidden
import Idealize.ShloMosaic.Lib.Pointwise

@[expose] public section

set_option maxRecDepth 16384

noncomputable section

namespace Cert.ReferenceIdeal.Math

open Idealize.ShloMosaic Idealize.ShloMosaic.TcCoe Idealize.SL.Sem
open Cert.ReferenceIdeal Cert.ReferenceIdeal.Gen Cert.ReferenceIdeal.Value Squad

variable (V0 : Valuation τ sig (Elt Ideal))

/-- The numerators of a softmax down the tokens. -/
theorem exp_tokens (x : FVec Ideal S2x2048x5 .f32) (b : Fin 2) (s : Fin 2048) (k : Fin 5) :
    Host.exp (subf x (broadcastInDim S2x2048x5 ![0, 1, 2] bcast_S2x1x5_S2x2048x5_0_1_2 (broadcastInDim S2x1x5 ![0, 2] bcast_S2x5_S2x1x5_0_2
      (maximumf (broadcastInDim S2x5 ![] bcast_S_S2x5 (constant S_ .f32 0xFF800000#32))
        (Host.reduce FloatOps.maximumf x (constant S_ .f32 0xFF800000#32) reducesTo_S2x2048x5_S2x5_d1 h_S_))))) (ix3 b s k)
      = expo (fun s => x (ix3 b s k)) s := by
  pointwise
  rw [ofBits_neg_inf, max_eq_right bot_le]
  rfl

/-- The reference's end numerators. -/
theorem v79_at (hs : ∀ b s, ∃ r : ℝ, sr V0 b s = r) (b : Fin 2) (s : Fin 2048) (k : Fin 5) :
    (res_main_v79 V0 : FVec Ideal S2x2048x5 .f32) (ix3 b s k) = expo (er V0 b k) s := by
  refine (exp_tokens (res_main_v72 V0) b s k).trans ?_
  simp only [v72_at V0 hs]

/-- The quotients of a softmax down the tokens, the tokens put last. -/
theorem div_tokens (x : FVec Ideal S2x2048x5 .f32) (b : Fin 2) (s : Fin 2048) (k : Fin 5) :
    transpose S2x5x2048 [0, 2, 1] (Host.divf x (broadcastInDim S2x2048x5 ![0, 1, 2] bcast_S2x1x5_S2x2048x5_0_1_2 (broadcastInDim S2x1x5 ![0, 2] bcast_S2x5_S2x1x5_0_2
      (Host.reduceAdd x (constant S_ .f32 0x00000000#32) reducesTo_S2x2048x5_S2x5_d1 h_S_)))) transposes_S2x2048x5_S2x5x2048_0_2_1 (ix3 b k s)
      = Ideal.div (x (ix3 b s k)) (∑ t, x (ix3 b t k)) := by
  pointwise

/-- The reference's end softmax, the tokens last. -/
theorem v84_at (hs : ∀ b s, ∃ r : ℝ, sr V0 b s = r) (b : Fin 2) (k : Fin 5) (s : Fin 2048) :
    (res_main_v84 V0 : FVec Ideal S2x5x2048 .f32) (ix3 b k s) = soft (er V0 b k) s := by
  refine (div_tokens (res_main_v79 V0) b s k).trans ?_
  simp only [v79_at V0 hs]
  rfl

/-- The five greatest along the last axis, and their positions. -/
abbrev top3 (x : FVec Ideal S2x5x2048 .f32) : FVec Ideal S2x5x5 .f32 × IVec S2x5x5 32 :=
  Host.topK S2x5x5 2 (FloatOps.cmpfTotal .gt) x sliceFits_S2x5x2048_S2x5x5

/-- The last coordinate replaced. -/
theorem along3 (b : Fin 2) (k : Fin 5) (j s : Fin 2048) : (ix3 b k j : S2x5x2048.Idx).along 2 s = ix3 b k s := by
  funext a
  fin_cases a <;> rfl

/-- They are where the order of the row says. -/
theorem topK3 (x : FVec Ideal S2x5x2048 .f32) (b : Fin 2) (k j : Fin 5) :
    (top3 x).1 (ix3 b k j) = x (ix3 b k (place (fun s => x (ix3 b k s)) j))
      ∧ (top3 x).2 (ix3 b k j) = BitVec.ofNat 32 (place (fun s => x (ix3 b k s)) j) := by
  constructor
  · unfold top3 Host.topK Host.sort2
    pointwise
    refine congrArg x ?_
    simp only [along3]
    exact congrArg (ix3 b k) (sorted_row (fun s => x (ix3 b k s)) _)
  · unfold top3 Host.topK Host.sort2
    pointwise
    simp only [along3]
    exact congrArg (fun s : Fin 2048 => BitVec.ofNat 32 s.val) (sorted_row (fun s => x (ix3 b k s)) _)

/-- The reference's end values and end tokens, before they are laid out in one row. -/
theorem ends_at (hs : ∀ b s, ∃ r : ℝ, sr V0 b s = r) (b : Fin 2) (k j : Fin 5) :
    (top3 (res_main_v84 V0)).1 (ix3 b k j) = soft (er V0 b k) (place (expo (er V0 b k)) j)
      ∧ (top3 (res_main_v84 V0)).2 (ix3 b k j) = BitVec.ofNat 32 (place (expo (er V0 b k)) j) := by
  have e : (fun s => (res_main_v84 V0 : FVec Ideal S2x5x2048 .f32) (ix3 b k s)) = soft (er V0 b k) := funext fun s => v84_at V0 hs b k s
  have h := topK3 (res_main_v84 V0) b k j
  rw [e, v84_at V0 hs] at h
  unfold place at h ⊢
  rw [order_soft_expo] at h
  exact h

end Cert.ReferenceIdeal.Math
-- ==== Proof.RClass.lean ====
/-
  The reference's class head: the mean of the rows under the start weights, beside the class token's row.
-/
module

public import proofs.«01_k».proof.Proof.RRows
import Idealize.ShloMosaic.Lib.Pointwise

@[expose] public section

set_option maxRecDepth 16384

noncomputable section

namespace Cert.ReferenceIdeal.Math

open Idealize.ShloMosaic Idealize.ShloMosaic.TcCoe Idealize.SL.Sem
open Cert.ReferenceIdeal Cert.ReferenceIdeal.Gen Cert.ReferenceIdeal.Value Squad

variable (V0 : Valuation τ sig (Elt Ideal))

/-- Argument 11: the class head's first weights. -/
abbrev A11 : FVec Ideal S1536x768 .f32 := V0 (Proc.devRef .tc main_arg11)
/-- Argument 12: the class head's bias. -/
abbrev A12 : FVec Ideal S768 .f32 := V0 (Proc.devRef .tc main_arg12)
/-- Argument 13: the class head's second weights. -/
abbrev A13 : FVec Ideal S768x1 .f32 := V0 (Proc.devRef .tc main_arg13)

/-- The class logits over the hidden rows `x`, the weights `a` and the rows `r` of the class tokens. -/
abbrev classHead (x : FVec Ideal S2x2048x768 .f32) (a : FVec Ideal S2x2048 .f32) (r : FVec Ideal S2x1x768 .f32) (w : FVec Ideal S1536x768 .f32)
    (c : FVec Ideal S768 .f32) (o : FVec Ideal S768x1 .f32) : FVec Ideal S2 .f32 :=
  shapeCast S2 (Host.dotGeneral dot_S2x768_S768x1_S2x1_1_0_0_1_n_n none (Host.tanh (addf (Host.dotGeneral dot_S2x1536_S1536x768_S2x768_1_0_0_1_n_n none (concatenate S2x1536 1 [⟨S2x768, (Host.dotGeneral dot_S2x2048x768_S2x2048_S2x768_1_1_2_n_0_0 none x a)⟩, ⟨S2x768, (shapeCast S2x768 r shapeCasts_S2x1x768_S2x768)⟩] concatenates_S2x768_S2x768_S2x1536_d1) w) (broadcastInDim S2x768 ![0, 1] bcast_S1x768_S2x768_0_1 (broadcastInDim S1x768 ![1] bcast_S768_S1x768_1 c)))) o) shapeCasts_S2x1_S2

/-- Its value at a batch is the class logit of the row. -/
theorem classHead_at (x : FVec Ideal S2x2048x768 .f32) (a : FVec Ideal S2x2048 .f32) (r : FVec Ideal S2x1x768 .f32) (w : FVec Ideal S1536x768 .f32)
    (c : FVec Ideal S768 .f32) (o : FVec Ideal S768x1 .f32) (b : Fin 2) :
    classHead x a r w c o (ix1 b) = classLogit (fun s i => x (ix3 b s i)) (fun s => a (ix2 b s)) (fun i => r (ix3 b 0 i))
      (fun i j => w (ix2 (upper i) j)) (fun i j => w (ix2 (lower i) j)) (fun j => c (ix1 j)) (fun j => o (ix2 j 0)) := by
  pointwise
  rfl

/-- Words by batch, repeated along 768 columns. -/
theorem rows1_at (x : IVec S2 32) (b : Fin 2) (i : Fin 768) :
    broadcastInDim S2x1x768 ![0, 1, 2] bcast_S2x1x1_S2x1x768_0_1_2 (broadcastInDim S2x1x1 ![0] bcast_S2_S2x1x1_0 x) (ix3 b 0 i)
      = x (ix1 b) := by
  pointwise

/-- The class words name their tokens. -/
theorem v91_at (hc : ∀ b, (A1 V0 (ix1 b)).toNat ≤ 2047) (b : Fin 2) (i : Fin 768) :
    (res_main_v91 V0 : IVec S2x1x768 32) (ix3 b 0 i) = BitVec.ofNat 32 (classToken (A1 V0) b).val := by
  refine (rows1_at (A1 V0) b i).trans ?_
  have := hc b
  unfold classToken
  rw [Fin.val_ofNat, Nat.mod_eq_of_lt (by omega), BitVec.ofNat_toNat, BitVec.setWidth_eq]

/-- The class words as the gather reads them name their tokens too. -/
theorem call1_at (hc : ∀ b, (A1 V0 (ix1 b)).toNat ≤ 2047) (b : Fin 2) (i : Fin 768) :
    (res_main_call1_v5 V0 : IVec S2x1x768x1 32) (ix4 b 0 i 0) = BitVec.ofNat 32 (classToken (A1 V0) b).val :=
  wrapped1_at (res_main_v91 V0) b i _ (v91_at V0 hc b i)

/-- The rows of the class tokens. -/
abbrev classRows : FVec Ideal S2x1x768 .f32 :=
  select (inside1 (res_main_call1_v5 V0))
    (Host.gather gather_S2x2048x768_S2x1x768x1_S2x1x768_n_1_02_02_1_3_111 (A0 V0) (res_main_call1_v5 V0))
    (broadcastInDim S2x1x768 ![] bcast_S_S2x1x768 (constant S_ .f32 0x7FC00000#32))

/-- The reference's class logits. -/
theorem class_at (hc : ∀ b, (A1 V0 (ix1 b)).toNat ≤ 2047) (b : Fin 2) :
    classHead (A0 V0) (res_main_v21 V0) (classRows V0) (A11 V0) (A12 V0) (A13 V0) (ix1 b)
      = classVal (A0 V0) (A1 V0) (A11 V0) (A12 V0) (A13 V0) b (soft (sr V0 b)) := by
  rw [classHead_at]
  have h : ∀ i, classRows V0 (ix3 b 0 i) = A0 V0 (ix3 b (classToken (A1 V0) b) i) :=
    fun i => take1_at _ _ b i _ (call1_at V0 hc b i)
  unfold classVal
  simp only [h, v21_at]

end Cert.ReferenceIdeal.Math
-- ==== Proof.RRun.lean ====
/-
  The reference's run, its class logits named as `RClass` names them.
-/
module

public import proofs.«01_k».proof.Proof.RClass
public import proofs.«01_k».proof.Proof.REnd

@[expose] public section

set_option maxRecDepth 16384

noncomputable section

namespace Cert.ReferenceIdeal.Math

open Idealize.ShloMosaic Idealize.ShloMosaic.TcCoe Idealize.SL.Sem
open Cert.ReferenceIdeal Cert.ReferenceIdeal.Gen Cert.ReferenceIdeal.Value Squad

/-- The reference's class logits, over the arrays it is launched on. -/
def classOut (V0 : Valuation τ sig (Elt Ideal)) : FVec Ideal S2 .f32 :=
  classHead (A0 V0) (res_main_v21 V0) (classRows V0) (A11 V0) (A12 V0) (A13 V0)

/-- The reference runs and ends with its class logits in its last result. -/
theorem run_class (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v101) = classOut (StableHlo.launchContents m c) := by
  refine (θ_run defs _ _).mono (fun r h c => ?_) (Cert.ReferenceIdeal.Value.run (F := Ideal) m ρ)
  obtain ⟨h1, h2, h3, h4, h5, hk⟩ := h c
  rw [h5]
  unfold classOut classHead
  refine congrArg (fun X => shapeCast S2 X shapeCasts_S2x1_S2) ?_
  rfl

end Cert.ReferenceIdeal.Math
-- ==== Proof.Equal.lean ====
/-
  The equation: on arguments that agree, what the reference computes is what the kernel leaves, result by result.
-/
module

public import proofs.«01_k».proof.Proof.KTail
public import proofs.«01_k».proof.Proof.REnd
public import proofs.«01_k».proof.Proof.RRun

@[expose] public section

set_option maxRecDepth 16384

noncomputable section

namespace Cert.Equal

open Idealize.ShloMosaic Idealize.ShloMosaic.TcCoe Idealize.SL.Sem
open Cert.ReferenceIdeal.Math Cert.KernelIdeal.Math Squad

/-- The reference's arguments are the kernel's. -/
structure Agree (V0 : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD) : Prop where
  a0 : A0 V0 = X0 m c
  a1 : A1 V0 = X1 m c
  a2 : A2 V0 = X2 m c
  a3 : A3 V0 = X3 m c
  a4 : A4 V0 = X4 m c
  a5 : A5 V0 = X5 m c
  a6 : A6 V0 = X6 m c
  a7 : A7 V0 = X7 m c
  a8 : A8 V0 = X8 m c
  a9 : A9 V0 = X9 m c
  a10 : A10 V0 = X10 m c
  a11 : A11 V0 = X11 m c
  a12 : A12 V0 = X12 m c
  a13 : A13 V0 = X13 m c

variable {V0 : Valuation Cert.ReferenceIdeal.τ Cert.ReferenceIdeal.sig (Elt Ideal)}
    {m : (ℓ : Loc Cert.KernelIdeal.nD Cert.KernelIdeal.τ Cert.KernelIdeal.sig) → Buf (Elt Ideal) ℓ} {c : Dev Cert.KernelIdeal.nD}

/-- The start logits are the same. -/
theorem sr_eq (h : Agree V0 m c) (b : Fin 2) : sr V0 b = sb m c b := by
  unfold sr sb
  rw [h.a0, h.a2, h.a3, h.a4]

/-- The end logits are the same. -/
theorem er_eq (h : Agree V0 m c) (b : Fin 2) (k : Fin 5) : er V0 b k = eb m c b k := by
  unfold er eb
  rw [sr_eq h, h.a0, h.a2, h.a5, h.a6, h.a7, h.a8, h.a9, h.a10]

/-- The reference's start logits are real where the kernel's are. -/
theorem real_eq (h : Agree V0 m c) (hs : StartReal m c) : ∀ b s, ∃ r : ℝ, sr V0 b s = r := fun b s => by
  rw [sr_eq h]
  exact hs b s

/-- The start values and the start tokens are the kernel's. -/
theorem starts_eq (h : Agree V0 m c) (hs : StartReal m c) :
    (top2 (Cert.ReferenceIdeal.Value.res_main_v21 V0)).1 = R1 m c ∧ (top2 (Cert.ReferenceIdeal.Value.res_main_v21 V0)).2 = R2 m c := by
  constructor <;> funext i <;> idx_vars i
  · refine (starts_at V0 (real_eq h hs) _ _).1.trans ?_
    rw [sr_eq h]
    rfl
  · refine (starts_at V0 (real_eq h hs) _ _).2.trans ?_
    rw [sr_eq h]
    rfl

/-- The end values and the end tokens are the kernel's, before they are laid out in one row. -/
theorem ends_eq (h : Agree V0 m c) (hs : StartReal m c) :
    (top3 (Cert.ReferenceIdeal.Value.res_main_v84 V0)).1 = G18 m c ∧ (top3 (Cert.ReferenceIdeal.Value.res_main_v84 V0)).2 = G19 m c := by
  constructor <;> funext i <;> idx_vars i
  · refine (ends_at V0 (real_eq h hs) _ _ _).1.trans ?_
    rw [er_eq h]
    rfl
  · refine (ends_at V0 (real_eq h hs) _ _ _).2.trans ?_
    rw [er_eq h]
    rfl

/-- The class logits are the kernel's. -/
theorem class_eq (h : Agree V0 m c) (hc : ∀ b, (X1 m c (ix1 b)).toNat ≤ 2047) :
    classOut V0 = R5 m c := by
  funext i
  idx_vars i
  refine (class_at V0 (fun b => by rw [h.a1]; exact hc b) _).trans ?_
  rw [sr_eq h, h.a0, h.a1, h.a11, h.a12, h.a13]
  rfl

end Cert.Equal
-- ==== Proof.Algebraic.lean ====
/-
  The algebraic claim: the kernel and the reference, run on equal arguments, end with equal results.
-/
module

public import proofs.«01_k».proof.Proof.Equal
public import proofs.«01_k».proof.Proof.IdealWords
public import proofs.«01_k».proof.Proof.RefFrame

@[expose] public section

set_option maxRecDepth 16384

noncomputable section

namespace Cert.Equal

open Idealize.ShloMosaic Idealize.ShloMosaic.TcCoe Idealize.SL.Sem
open Cert.KernelIdeal Cert.KernelIdeal.Gen Cert.KernelIdeal.Body Cert.KernelIdeal.Math Squad

/-- Finite arguments give real start logits. -/
theorem start_real (m : (ℓ : Loc nD τ sig) → Buf (Elt Ideal) ℓ) (hp : Pre_KernelIdeal_finite_start m) (c : Dev nD) : StartReal m c := by
  obtain ⟨-, h0, h2, h3, h4⟩ := Squad.finite_start _ _ _ _ _ _ _ _ _ _ _ _ _ _ (hp c)
  intro b i
  exact startLogit_real _ _ _ _ (fun s k => h0 _) (fun s => h2 _) (fun k => h3 _) (h4 _) i

/-- Every class word names a token. -/
theorem class_range (m : (ℓ : Loc nD τ sig) → Buf (Elt Ideal) ℓ) (hp : Pre_KernelIdeal_finite_start m) (c : Dev nD) (b : Fin 2) :
    (X1 m c (ix1 b)).toNat ≤ 2047 :=
  (Squad.finite_start _ _ _ _ _ _ _ _ _ _ _ _ _ _ (hp c)).1 _

/-- The end values laid out in one row, end rank first. -/
abbrev R3 (m : (ℓ : Loc nD τ sig) → Buf (Elt Ideal) ℓ) (c : Dev nD) : FVec Ideal S2x25 .f32 :=
  shapeCast S2x25 (transpose S2x5x5 [0, 2, 1] (G18 m c) transposes_S2x5x5_S2x5x5_0_2_1) shapeCasts_S2x5x5_S2x25

/-- The end tokens laid out in one row, end rank first. -/
abbrev R4 (m : (ℓ : Loc nD τ sig) → Buf (Elt Ideal) ℓ) (c : Dev nD) : IVec S2x25 32 :=
  shapeCast S2x25 (transpose S2x5x5 [0, 2, 1] (G19 m c) transposes_S2x5x5_S2x5x5_0_2_1) shapeCasts_S2x5x5_S2x25

/-- The kernel and the reference end with equal results, as extended reals. -/
theorem algebraic : Cert.algebraic_KernelIdeal_ReferenceIdeal_pre_finite_start := fun m g m' g' hp ha => by
  have hw := wordsOk_of_finite m hp
  have hag : ∀ c, Agree (StableHlo.launchContents m' c) m c := fun c => by
    obtain ⟨e0, e1, e2, e3, e4, e5, e6, e7, e8, e9, e10, e11, e12, e13⟩ := ha c
    exact ⟨e0, e1, e2, e3, e4, e5, e6, e7, e8, e9, e10, e11, e12, e13⟩
  refine ⟨R1 m, R2 m, R3 m, R4 m, R5 m, ?_, ?_⟩
  · refine (θ_run defs _ _).mono (fun r h c => ?_) (θ_run_and (run_main m g hw) (frame m g hw))
    exact ⟨((h.1 c).2 main_v12 (Pipeline.mem_restRefs_of main_v12 (by decide) (by decide))).trans (tail12 m hw c (start_real m hp c)),
      ((h.1 c).2 main_v13 (Pipeline.mem_restRefs_of main_v13 (by decide) (by decide))).trans (tail13 m hw c (start_real m hp c)),
      ((h.1 c).2 main_v15 (Pipeline.mem_restRefs_of main_v15 (by decide) (by decide))).trans (tail15 m hw c (start_real m hp c)),
      ((h.1 c).2 main_v17 (Pipeline.mem_restRefs_of main_v17 (by decide) (by decide))).trans (tail17 m hw c (start_real m hp c)),
      ((h.1 c).2 main_v18 (Pipeline.mem_restRefs_of main_v18 (by decide) (by decide))).trans (tail18 m hw c (class_range m hp c)),
      h.2.1 c⟩
  · refine (θ_run Cert.ReferenceIdeal.defs _ _).mono (fun r h c => ?_)
      (θ_run_and (Cert.ReferenceIdeal.Value.run (F := Ideal) m' g') (Cert.ReferenceIdeal.Math.run_class m' g'))
    obtain ⟨h1, h2, h3, h4, -, hk⟩ := h.1 c
    have hs := start_real m hp c
    have q1 := h1.trans (starts_eq (hag c) hs).1
    have q2 := h2.trans (starts_eq (hag c) hs).2
    have q3 := h3.trans (congrArg (fun X => shapeCast S2x25 (transpose S2x5x5 [0, 2, 1] X transposes_S2x5x5_S2x5x5_0_2_1) shapeCasts_S2x5x5_S2x25)
        (ends_eq (hag c) hs).1)
    have q4 := h4.trans (congrArg (fun X => shapeCast S2x25 (transpose S2x5x5 [0, 2, 1] X transposes_S2x5x5_S2x5x5_0_2_1) shapeCasts_S2x5x5_S2x25)
        (ends_eq (hag c) hs).2)
    have q5 := (h.2 c).trans (class_eq (hag c) (class_range m hp c))
    exact ⟨q1, q2, q3, q4, q5, hk⟩

end Cert.Equal
-- ==== Proof.lean ====
/-
  The certificate: the kernel's frame, the idealized kernel's, the reference's, that idealizing kept the text, and that
  the kernel's five results are the reference's as extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_index_in_range
public import proofs.«01_k».proof.Proof.Gen.Pre_finite_start
public import proofs.«01_k».proof.Proof.KernelWords
public import proofs.«01_k».proof.Proof.IdealWords
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three frames, that idealizing changed no text, and the equation of all five results. -/
theorem claim : Cert.Claim := ⟨Cert.Kernel.Gen.facts, Cert.KernelIdeal.Gen.facts, Cert.ReferenceIdeal.Gen.facts, Cert.Pre_index_in_range.Gen.facts,
  Cert.Pre_finite_start.Gen.facts, Cert.Kernel.Body.claim_frame, Cert.KernelIdeal.Body.claim_frame, Cert.KernelIdeal.Body.claim_frame_finite,
  Cert.ReferenceIdeal.Body.claim_frame, Cert.ReferenceIdeal.Body.claim_frame_finite, trivial, Cert.Equal.algebraic⟩

end Cert.Proof

end
